-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_crossings_in_range [hPre_crossings_in_range : Cert.Pre_crossings_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_crossings_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_crossings_in_range [hPre_crossings_in_range : Cert.Pre_crossings_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_crossings_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_crossings_in_range [hKernelIdeal : Cert.KernelIdeal.Facts] [hPre_crossings_in_range : Cert.Pre_crossings_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_crossings_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_crossings_in_range [hReferenceIdeal : Cert.ReferenceIdeal.Facts] [hPre_crossings_in_range : Cert.Pre_crossings_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_crossings_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_crossings_in_range [hKernelIdeal : Cert.KernelIdeal.Facts] [hReferenceIdeal : Cert.ReferenceIdeal.Facts] [hPre_crossings_in_range : Cert.Pre_crossings_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_crossings_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_crossings_in_range : Cert.Pre_crossings_in_range.Facts),
    quiescent_Kernel (hKernel := hKernel)
    ∧ quiescent_KernelIdeal (hKernelIdeal := hKernelIdeal)
    ∧ quiescent_KernelIdeal_pre_crossings_in_range (hKernelIdeal := hKernelIdeal) (hPre_crossings_in_range := hPre_crossings_in_range)
    ∧ quiescent_ReferenceIdeal (hReferenceIdeal := hReferenceIdeal)
    ∧ quiescent_ReferenceIdeal_pre_crossings_in_range (hReferenceIdeal := hReferenceIdeal) (hPre_crossings_in_range := hPre_crossings_in_range)
    ∧ preserves_Kernel_KernelIdeal
    ∧ algebraic_KernelIdeal_ReferenceIdeal_pre_crossings_in_range (hKernelIdeal := hKernelIdeal) (hReferenceIdeal := hReferenceIdeal) (hPre_crossings_in_range := hPre_crossings_in_range)
-- ==== Pre_crossings_in_range.lean ====
abbrev S16x128x2 : Shape := ⟨3, ![16, 128, 2]⟩
abbrev S1x64x256x256 : Shape := ⟨4, ![1, 64, 256, 256]⟩
abbrev S16x128x1 : Shape := ⟨3, ![16, 128, 1]⟩
abbrev S16x128 : Shape := ⟨2, ![16, 128]⟩
abbrev S_ : Shape := ⟨0, ![]⟩
abbrev S16x127 : Shape := ⟨2, ![16, 127]⟩
abbrev S16x1 : Shape := ⟨2, ![16, 1]⟩
abbrev S256 : Shape := ⟨1, ![256]⟩
abbrev S1x1x256 : Shape := ⟨3, ![1, 1, 256]⟩
abbrev S16x128x256 : Shape := ⟨3, ![16, 128, 256]⟩

class Facts : Prop where
  slices_S16x128x2_S16x128x1_0_0_0 : S16x128x2.Slices ![0, 0, 0] S16x128x1
  shapeCasts_S16x128x1_S16x128 : S16x128x1.ShapeCasts S16x128
  bcast_S_S16x128 : S_.BroadcastsInDim S16x128 (![] : Fin 0 → Fin S16x128.rank)
  slices_S16x128x2_S16x128x1_0_0_1 : S16x128x2.Slices ![0, 0, 1] S16x128x1
  bcast_S16x128_S16x128x1_0_1 : S16x128.BroadcastsInDim S16x128x1 (![0, 1] : Fin 2 → Fin S16x128x1.rank)
  concatenates_S16x128x1_S16x128x1_S16x128x2_d2 : Shape.Concatenates [S16x128x1, S16x128x1] S16x128x2 2
  slices_S16x128_S16x127_0_1 : S16x128.Slices ![0, 1] S16x127
  slices_S16x128_S16x1_0_0 : S16x128.Slices ![0, 0] S16x1
  concatenates_S16x127_S16x1_S16x128_d1 : Shape.Concatenates [S16x127, S16x1] S16x128 1
  bcast_S256_S1x1x256_2 : S256.BroadcastsInDim S1x1x256 (![2] : Fin 1 → Fin S1x1x256.rank)
  bcast_S16x128x1_S16x128x256_0_1_2 : S16x128x1.BroadcastsInDim S16x128x256 (![0, 1, 2] : Fin 3 → Fin S16x128x256.rank)
  bcast_S1x1x256_S16x128x256_0_1_2 : S1x1x256.BroadcastsInDim S16x128x256 (![0, 1, 2] : Fin 3 → Fin S16x128x256.rank)
  bcast_S_S16x128x1 : S_.BroadcastsInDim S16x128x1 (![] : Fin 0 → Fin S16x128x1.rank)
  bcast_S_S16x128x256 : S_.BroadcastsInDim S16x128x256 (![] : Fin 0 → Fin S16x128x256.rank)

variable [Facts]

def fn_clip {F : FTy → Type} [FloatOps F] (arg0 : FVec F S16x128 .f32) (arg1 : FVec F S_ .f32) (arg2 : FVec F S_ .f32) : FVec F S16x128 .f32 :=
  let v0 : FVec F S_ .f32 := id arg1
  let v1 : FVec F S16x128 .f32 := broadcastInDim S16x128 ![] bcast_S_S16x128 v0
  let v2 : FVec F S16x128 .f32 := maximumf v1 arg0
  let v3 : FVec F S_ .f32 := id arg2
  let v4 : FVec F S16x128 .f32 := broadcastInDim S16x128 ![] bcast_S_S16x128 v3
  let v5 : FVec F S16x128 .f32 := minimumf v4 v2
  v5

def fn_roll_static {F : FTy → Type} [FloatOps F] (arg0 : FVec F S16x128 .f32) : FVec F S16x128 .f32 :=
  let v0 : FVec F S16x127 .f32 := (extractStridedSlice S16x127 ![0, 1] · slices_S16x128_S16x127_0_1) arg0
  let v1 : FVec F S16x1 .f32 := (extractStridedSlice S16x1 ![0, 0] · slices_S16x128_S16x1_0_0) arg0
  let v2 : FVec F S16x128 .f32 := (fun a b => concatenate S16x128 1 [⟨S16x127, a⟩, ⟨S16x1, b⟩] concatenates_S16x127_S16x1_S16x128_d1) v0 v1
  v2

def fn_part2 {F : FTy → Type} [FloatOps F] (main_v11 : FVec F S16x128x1 .f32) (main_v31 : IVec S16x128x256 1) (main_v42 : FVec F S16x128x256 .f32) : IVec S16x128x256 1 :=
  let main_v43 : FVec F S16x128x256 .f32 := broadcastInDim S16x128x256 ![0, 1, 2] bcast_S16x128x1_S16x128x256_0_1_2 main_v11
  let main_v44 : FVec F S16x128x256 .f32 := addf main_v43 main_v42
  let main_v45 : IVec S16x128x256 1 := noti main_v31
  let main_cst_4 : FVec F S_ .f32 := constant S_ .f32 0x4EFFFFFF#32
  let main_v46 : FVec F S16x128x256 .f32 := broadcastInDim S16x128x256 ![] bcast_S_S16x128x256 main_cst_4
  let main_v47 : IVec S16x128x256 1 := cmpf .ole main_v44 main_v46
  let main_v48 : IVec S16x128x256 1 := ori main_v45 main_v47
  main_v48

def fn_part1 {F : FTy → Type} [FloatOps F] (main_v11 : FVec F S16x128x1 .f32) (main_v14 : FVec F S16x128x1 .f32) (main_v18 : FVec F S16x128x1 .f32) (main_v19 : FVec F S16x128x1 .f32) : IVec S16x128x256 1 :=
  let main_v20 : FVec F S16x128 .f32 := shapeCast S16x128 main_v19 shapeCasts_S16x128x1_S16x128
  let main_v21 : FVec F S16x128 .f32 := fn_roll_static (F := F) main_v20
  let main_v22 : FVec F S16x128x1 .f32 := broadcastInDim S16x128x1 ![0, 1] bcast_S16x128_S16x128x1_0_1 main_v21
  let main_v23 : FVec F S256 .f32 := sitofp .f32 (iotaInDim S256 32 0)
  let main_v24 : FVec F S1x1x256 .f32 := broadcastInDim S1x1x256 ![2] bcast_S256_S1x1x256_2 main_v23
  let main_v25 : FVec F S16x128x256 .f32 := broadcastInDim S16x128x256 ![0, 1, 2] bcast_S16x128x1_S16x128x256_0_1_2 main_v14
  let main_v26 : FVec F S16x128x256 .f32 := broadcastInDim S16x128x256 ![0, 1, 2] bcast_S1x1x256_S16x128x256_0_1_2 main_v24
  let main_v27 : IVec S16x128x256 1 := cmpf .ogt main_v25 main_v26
  let main_v28 : FVec F S16x128x256 .f32 := broadcastInDim S16x128x256 ![0, 1, 2] bcast_S16x128x1_S16x128x256_0_1_2 main_v22
  let main_v29 : FVec F S16x128x256 .f32 := broadcastInDim S16x128x256 ![0, 1, 2] bcast_S1x1x256_S16x128x256_0_1_2 main_v24
  let main_v30 : IVec S16x128x256 1 := cmpf .ogt main_v28 main_v29
  let main_v31 : IVec S16x128x256 1 := cmpi .ne main_v27 main_v30
  let main_v32 : FVec F S16x128x256 .f32 := broadcastInDim S16x128x256 ![0, 1, 2] bcast_S1x1x256_S16x128x256_0_1_2 main_v24
  let main_v33 : FVec F S16x128x256 .f32 := broadcastInDim S16x128x256 ![0, 1, 2] bcast_S16x128x1_S16x128x256_0_1_2 main_v14
  let main_v34 : FVec F S16x128x256 .f32 := subf main_v32 main_v33
  let main_v35 : FVec F S16x128x1 .f32 := subf main_v22 main_v14
  let main_cst_3 : FVec F S_ .f32 := constant S_ .f32 0x3089705F#32
  let main_v36 : FVec F S16x128x1 .f32 := broadcastInDim S16x128x1 ![] bcast_S_S16x128x1 main_cst_3
  let main_v37 : FVec F S16x128x1 .f32 := addf main_v35 main_v36
  let main_v38 : FVec F S16x128x256 .f32 := broadcastInDim S16x128x256 ![0, 1, 2] bcast_S16x128x1_S16x128x256_0_1_2 main_v37
  let main_v39 : FVec F S16x128x256 .f32 := Host.divf main_v34 main_v38
  let main_v40 : FVec F S16x128x1 .f32 := subf main_v18 main_v11
  let main_v41 : FVec F S16x128x256 .f32 := broadcastInDim S16x128x256 ![0, 1, 2] bcast_S16x128x1_S16x128x256_0_1_2 main_v40
  let main_v42 : FVec F S16x128x256 .f32 := mulf main_v39 main_v41
  fn_part2 (F := F) main_v11 main_v31 main_v42

def fn {F : FTy → Type} [FloatOps F] (main_arg0 : FVec F S16x128x2 .f32) (main_arg1 : FVec F S1x64x256x256 .f32) : IVec S16x128x256 1 :=
  let main_v0 : FVec F S16x128x1 .f32 := (extractStridedSlice S16x128x1 ![0, 0, 0] · slices_S16x128x2_S16x128x1_0_0_0) main_arg0
  let main_v1 : FVec F S16x128 .f32 := shapeCast S16x128 main_v0 shapeCasts_S16x128x1_S16x128
  let main_cst : FVec F S_ .f32 := constant S_ .f32 0x00000000#32
  let main_cst_0 : FVec F S_ .f32 := constant S_ .f32 0x437F0000#32
  let main_v2 : FVec F S16x128 .f32 := fn_clip (F := F) main_v1 main_cst main_cst_0
  let main_v3 : FVec F S16x128x1 .f32 := (extractStridedSlice S16x128x1 ![0, 0, 1] · slices_S16x128x2_S16x128x1_0_0_1) main_arg0
  let main_v4 : FVec F S16x128 .f32 := shapeCast S16x128 main_v3 shapeCasts_S16x128x1_S16x128
  let main_cst_1 : FVec F S_ .f32 := constant S_ .f32 0x00000000#32
  let main_cst_2 : FVec F S_ .f32 := constant S_ .f32 0x437F0000#32
  let main_v5 : FVec F S16x128 .f32 := fn_clip (F := F) main_v4 main_cst_1 main_cst_2
  let main_v6 : FVec F S16x128x1 .f32 := broadcastInDim S16x128x1 ![0, 1] bcast_S16x128_S16x128x1_0_1 main_v2
  let main_v7 : FVec F S16x128x1 .f32 := broadcastInDim S16x128x1 ![0, 1] bcast_S16x128_S16x128x1_0_1 main_v5
  let main_v8 : FVec F S16x128x2 .f32 := (fun a b => concatenate S16x128x2 2 [⟨S16x128x1, a⟩, ⟨S16x128x1, b⟩] concatenates_S16x128x1_S16x128x1_S16x128x2_d2) main_v6 main_v7
  let main_v9 : FVec F S16x128x1 .f32 := (extractStridedSlice S16x128x1 ![0, 0, 0] · slices_S16x128x2_S16x128x1_0_0_0) main_v8
  let main_v10 : FVec F S16x128 .f32 := shapeCast S16x128 main_v9 shapeCasts_S16x128x1_S16x128
  let main_v11 : FVec F S16x128x1 .f32 := broadcastInDim S16x128x1 ![0, 1] bcast_S16x128_S16x128x1_0_1 main_v10
  let main_v12 : FVec F S16x128x1 .f32 := (extractStridedSlice S16x128x1 ![0, 0, 1] · slices_S16x128x2_S16x128x1_0_0_1) main_v8
  let main_v13 : FVec F S16x128 .f32 := shapeCast S16x128 main_v12 shapeCasts_S16x128x1_S16x128
  let main_v14 : FVec F S16x128x1 .f32 := broadcastInDim S16x128x1 ![0, 1] bcast_S16x128_S16x128x1_0_1 main_v13
  let main_v15 : FVec F S16x128x1 .f32 := (extractStridedSlice S16x128x1 ![0, 0, 0] · slices_S16x128x2_S16x128x1_0_0_0) main_v8
  let main_v16 : FVec F S16x128 .f32 := shapeCast S16x128 main_v15 shapeCasts_S16x128x1_S16x128
  let main_v17 : FVec F S16x128 .f32 := fn_roll_static (F := F) main_v16
  let main_v18 : FVec F S16x128x1 .f32 := broadcastInDim S16x128x1 ![0, 1] bcast_S16x128_S16x128x1_0_1 main_v17
  let main_v19 : FVec F S16x128x1 .f32 := (extractStridedSlice S16x128x1 ![0, 0, 1] · slices_S16x128x2_S16x128x1_0_0_1) main_v8
  fn_part1 (F := F) main_v11 main_v14 main_v18 main_v19
-- ==== Kernel.lean ====
abbrev S16x128x2 : Shape := ⟨3, ![16, 128, 2]⟩
abbrev S1x64x256x256 : Shape := ⟨4, ![1, 64, 256, 256]⟩
abbrev S16x128x1 : Shape := ⟨3, ![16, 128, 1]⟩
abbrev S16x128 : Shape := ⟨2, ![16, 128]⟩
abbrev S_ : Shape := ⟨0, ![]⟩
abbrev S16x127 : Shape := ⟨2, ![16, 127]⟩
abbrev S16x1 : Shape := ⟨2, ![16, 1]⟩
abbrev S16x1x128 : Shape := ⟨3, ![16, 1, 128]⟩
abbrev S16x4x128 : Shape := ⟨3, ![16, 4, 128]⟩
abbrev S8192 : Shape := ⟨1, ![8192]⟩
abbrev S1048576 : Shape := ⟨1, ![1048576]⟩
abbrev S4096 : Shape := ⟨1, ![4096]⟩
abbrev S16 : Shape := ⟨1, ![16]⟩
abbrev S16x256x256 : Shape := ⟨3, ![16, 256, 256]⟩
abbrev S64x256x256 : Shape := ⟨3, ![64, 256, 256]⟩
abbrev S16x32x256 : Shape := ⟨3, ![16, 32, 256]⟩
abbrev S64x32x256 : Shape := ⟨3, ![64, 32, 256]⟩
abbrev S256x256 : Shape := ⟨2, ![256, 256]⟩
abbrev S512x256 : Shape := ⟨2, ![512, 256]⟩
abbrev S32x256 : Shape := ⟨2, ![32, 256]⟩
abbrev S1x32x256 : Shape := ⟨3, ![1, 32, 256]⟩
abbrev S1x16x256x256 : Shape := ⟨4, ![1, 16, 256, 256]⟩

abbrev nBuf : Table → Nat
  | .hbm => 41
  | .local .tc .vmem => 8
  | .local .scVector .vmem => 2
  | _ => 0

abbrev bufTy : (tb : Table) → Fin (nBuf tb) → BufTy
  | .hbm, ⟨0, _⟩ => ⟨S16x128x2, .f32⟩
  | .hbm, ⟨1, _⟩ => ⟨S1x64x256x256, .f32⟩
  | .hbm, ⟨2, _⟩ => ⟨S16x128x1, .f32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128x1, .f32⟩
  | .hbm, ⟨13, _⟩ => ⟨S16x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S16x127, .f32⟩
  | .hbm, ⟨23, _⟩ => ⟨S16x1, .f32⟩
  | .hbm, ⟨24, _⟩ => ⟨S16x128, .f32⟩
  | .hbm, ⟨25, _⟩ => ⟨S16x127, .f32⟩
  | .hbm, ⟨26, _⟩ => ⟨S16x1, .f32⟩
  | .hbm, ⟨27, _⟩ => ⟨S16x128, .f32⟩
  | .hbm, ⟨28, _⟩ => ⟨S16x1x128, .f32⟩
  | .hbm, ⟨29, _⟩ => ⟨S16x1x128, .f32⟩
  | .hbm, ⟨30, _⟩ => ⟨S16x1x128, .f32⟩
  | .hbm, ⟨31, _⟩ => ⟨S16x1x128, .f32⟩
  | .hbm, ⟨32, _⟩ => ⟨S16x4x128, .f32⟩
  | .hbm, ⟨33, _⟩ => ⟨S8192, .f32⟩
  | .hbm, ⟨34, _⟩ => ⟨S1048576, .f32⟩
  | .hbm, ⟨35, _⟩ => ⟨S16x256x256, .f32⟩
  | .hbm, ⟨36, _⟩ => ⟨S64x256x256, .f32⟩
  | .hbm, ⟨37, _⟩ => ⟨S16x256x256, .f32⟩
  | .hbm, ⟨38, _⟩ => ⟨S64x256x256, .f32⟩
  | .hbm, ⟨39, _⟩ => ⟨S1x16x256x256, .f32⟩
  | .hbm, ⟨40, _⟩ => ⟨S1x64x256x256, .f32⟩
  | .local .tc .vmem, ⟨0, _⟩ => ⟨S16x32x256, .f32⟩
  | .local .tc .vmem, ⟨1, _⟩ => ⟨S16x32x256, .f32⟩
  | .local .tc .vmem, ⟨2, _⟩ => ⟨S64x32x256, .f32⟩
  | .local .tc .vmem, ⟨3, _⟩ => ⟨S64x32x256, .f32⟩
  | .local .tc .vmem, ⟨4, _⟩ => ⟨S16x32x256, .f32⟩
  | .local .tc .vmem, ⟨5, _⟩ => ⟨S16x32x256, .f32⟩
  | .local .tc .vmem, ⟨6, _⟩ => ⟨S64x32x256, .f32⟩
  | .local .tc .vmem, ⟨7, _⟩ => ⟨S64x32x256, .f32⟩
  | .local .scVector .vmem, ⟨0, _⟩ => ⟨S8192, .f32⟩
  | .local .scVector .vmem, ⟨1, _⟩ => ⟨S4096, .f32⟩
  | _, _ => ⟨S16x128x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_call2_v0 : Ref sig .tc := ⟨.hbm, 22, rfl⟩
abbrev main_call2_v1 : Ref sig .tc := ⟨.hbm, 23, rfl⟩
abbrev main_v6 : Ref sig .tc := ⟨.hbm, 24, rfl⟩
abbrev main_call3_v0 : Ref sig .tc := ⟨.hbm, 25, rfl⟩
abbrev main_call3_v1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v18 : Ref sig .tc := ⟨.hbm, 39, rfl⟩
abbrev main_v19 : Ref sig .tc := ⟨.hbm, 40, rfl⟩
abbrev main_v13_scv : Ref sig .scVector := ⟨.hbm, 33, rfl⟩
abbrev main_v14_scv : Ref sig .scVector := ⟨.hbm, 34, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_14 : BitVec 32 := 0#32
  let c256_i32_15 : BitVec 32 := 256#32
  let v40 : BitVec 32 := Scalar.addi c0_i32_14 c256_i32_15
  let c1_i32_16 : BitVec 32 := 1#32
  ⟨c0_i32_14, v40, c1_i32_16⟩
def k0_mult1 (k0_t1 : Fin k0_t1_loop.trips) : BitVec 32 :=
  let c0_i32_14 : BitVec 32 := 0#32
  let c1_i32_16 : BitVec 32 := 1#32
  let arg6 : BitVec 32 := Scf.iv c0_i32_14 c1_i32_16 k0_t1
  let c16_i32_213 : BitVec 32 := 16#32
  let v325 : BitVec 32 := Scalar.muli arg6 c16_i32_213
  v325
def k0_off1 (k0_t1 : Fin k0_t1_loop.trips) : Fin 1 → Nat :=
  let c0_i32_14 : BitVec 32 := 0#32
  let c1_i32_16 : BitVec 32 := 1#32
  let arg6 : BitVec 32 := Scf.iv c0_i32_14 c1_i32_16 k0_t1
  let c16_i32_213 : BitVec 32 := 16#32
  let v325 : BitVec 32 := Scalar.muli arg6 c16_i32_213
  let v326 : BitVec 32 := v325
  let v327 : Index := Scalar.indexCast v326
  ![v327.toNat]
@[reducible] def k0_t2_loop : Scf.Loop 32 :=
  let c0_i32_19 : BitVec 32 := 0#32
  let c128_i32 : BitVec 32 := 128#32
  let v42 : BitVec 32 := Scalar.addi c0_i32_19 c128_i32
  let c1_i32_20 : BitVec 32 := 1#32
  ⟨c0_i32_19, v42, c1_i32_20⟩

def k0_chk1 (v327 : IVec S16 32) : Prop :=
  (∀ a x, ((![v327] : Fin 1 → IVec S16 32) a x).toNat < S8192.size a)
theorem k0_idx1_inb : ∀ (v327 : IVec S16 32) (k0_hw1 : k0_chk1 v327), ∀ a x, ((![v327] : Fin 1 → IVec S16 32) a x).toNat < S8192.size a := fun v327 k0_hw1 => k0_hw1

def k0_chk2 (v330 : IVec S16 32) : Prop :=
  (∀ a x, ((![v330] : Fin 1 → IVec S16 32) a x).toNat < S8192.size a)
theorem k0_idx2_inb : ∀ (v330 : IVec S16 32) (k0_hw2 : k0_chk2 v330), ∀ a x, ((![v330] : Fin 1 → IVec S16 32) a x).toNat < S8192.size a := fun v330 k0_hw2 => k0_hw2

def k0_chk3 (v333 : IVec S16 32) : Prop :=
  (∀ a x, ((![v333] : Fin 1 → IVec S16 32) a x).toNat < S8192.size a)
theorem k0_idx3_inb : ∀ (v333 : IVec S16 32) (k0_hw3 : k0_chk3 v333), ∀ a x, ((![v333] : Fin 1 → IVec S16 32) a x).toNat < S8192.size a := fun v333 k0_hw3 => k0_hw3

def k0_chk4 (v336 : IVec S16 32) : Prop :=
  (∀ a x, ((![v336] : Fin 1 → IVec S16 32) a x).toNat < S8192.size a)
theorem k0_idx4_inb : ∀ (v336 : IVec S16 32) (k0_hw4 : k0_chk4 v336), ∀ a x, ((![v336] : Fin 1 → IVec S16 32) a x).toNat < S8192.size a := fun v336 k0_hw4 => k0_hw4

def k0_chk5 (v361 : IVec S16 32) : Prop :=
  (∀ a x, ((![v361] : Fin 1 → IVec S16 32) a x).toNat < S4096.size a)
theorem k0_idx5_inb : ∀ (v361 : IVec S16 32) (k0_hw5 : k0_chk5 v361), ∀ a x, ((![v361] : Fin 1 → IVec S16 32) a x).toNat < S4096.size a := fun v361 k0_hw5 => k0_hw5
def k0_off2 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  let v6 : BitVec 32 := Scalar.addi v5 c0_i32
  let c4096_i32 : BitVec 32 := 4096#32
  let v44 : BitVec 32 := Scalar.muli v6 c4096_i32
  ![v44.toNat]
@[reducible] def k0_t3_loop : Scf.Loop 32 :=
  let c0_i32_40 : BitVec 32 := 0#32
  let c256_i32_41 : BitVec 32 := 256#32
  let v80 : BitVec 32 := Scalar.addi c0_i32_40 c256_i32_41
  let c1_i32_42 : BitVec 32 := 1#32
  ⟨c0_i32_40, v80, c1_i32_42⟩
def k0_mult2 (k0_t3 : Fin k0_t3_loop.trips) : BitVec 32 :=
  let c0_i32_40 : BitVec 32 := 0#32
  let c1_i32_42 : BitVec 32 := 1#32
  let arg6 : BitVec 32 := Scf.iv c0_i32_40 c1_i32_42 k0_t3
  let c16_i32_213 : BitVec 32 := 16#32
  let v325 : BitVec 32 := Scalar.muli arg6 c16_i32_213
  v325
def k0_off3 (k0_t3 : Fin k0_t3_loop.trips) : Fin 1 → Nat :=
  let c0_i32_40 : BitVec 32 := 0#32
  let c1_i32_42 : BitVec 32 := 1#32
  let arg6 : BitVec 32 := Scf.iv c0_i32_40 c1_i32_42 k0_t3
  let c16_i32_213 : BitVec 32 := 16#32
  let v325 : BitVec 32 := Scalar.muli arg6 c16_i32_213
  let v326 : BitVec 32 := v325
  let v327 : Index := Scalar.indexCast v326
  ![v327.toNat]
@[reducible] def k0_t4_loop : Scf.Loop 32 :=
  let c0_i32_45 : BitVec 32 := 0#32
  let c128_i32_46 : BitVec 32 := 128#32
  let v82 : BitVec 32 := Scalar.addi c0_i32_45 c128_i32_46
  let c1_i32_47 : BitVec 32 := 1#32
  ⟨c0_i32_45, v82, c1_i32_47⟩

def k0_chk6 (v327 : IVec S16 32) : Prop :=
  (∀ a x, ((![v327] : Fin 1 → IVec S16 32) a x).toNat < S8192.size a)
theorem k0_idx6_inb : ∀ (v327 : IVec S16 32) (k0_hw6 : k0_chk6 v327), ∀ a x, ((![v327] : Fin 1 → IVec S16 32) a x).toNat < S8192.size a := fun v327 k0_hw6 => k0_hw6

def k0_chk7 (v330 : IVec S16 32) : Prop :=
  (∀ a x, ((![v330] : Fin 1 → IVec S16 32) a x).toNat < S8192.size a)
theorem k0_idx7_inb : ∀ (v330 : IVec S16 32) (k0_hw7 : k0_chk7 v330), ∀ a x, ((![v330] : Fin 1 → IVec S16 32) a x).toNat < S8192.size a := fun v330 k0_hw7 => k0_hw7

def k0_chk8 (v333 : IVec S16 32) : Prop :=
  (∀ a x, ((![v333] : Fin 1 → IVec S16 32) a x).toNat < S8192.size a)
theorem k0_idx8_inb : ∀ (v333 : IVec S16 32) (k0_hw8 : k0_chk8 v333), ∀ a x, ((![v333] : Fin 1 → IVec S16 32) a x).toNat < S8192.size a := fun v333 k0_hw8 => k0_hw8

def k0_chk9 (v336 : IVec S16 32) : Prop :=
  (∀ a x, ((![v336] : Fin 1 → IVec S16 32) a x).toNat < S8192.size a)
theorem k0_idx9_inb : ∀ (v336 : IVec S16 32) (k0_hw9 : k0_chk9 v336), ∀ a x, ((![v336] : Fin 1 → IVec S16 32) a x).toNat < S8192.size a := fun v336 k0_hw9 => k0_hw9

def k0_chk10 (v361 : IVec S16 32) : Prop :=
  (∀ a x, ((![v361] : Fin 1 → IVec S16 32) a x).toNat < S4096.size a)
theorem k0_idx10_inb : ∀ (v361 : IVec S16 32) (k0_hw10 : k0_chk10 v361), ∀ a x, ((![v361] : Fin 1 → IVec S16 32) a x).toNat < S4096.size a := fun v361 k0_hw10 => k0_hw10
@[reducible] def k0_t5_loop : Scf.Loop 32 :=
  let c0_i32_68 : BitVec 32 := 0#32
  let c256_i32_69 : BitVec 32 := 256#32
  let v120 : BitVec 32 := Scalar.addi c0_i32_68 c256_i32_69
  let c1_i32_70 : BitVec 32 := 1#32
  ⟨c0_i32_68, v120, c1_i32_70⟩
def k0_mult3 (k0_t5 : Fin k0_t5_loop.trips) : BitVec 32 :=
  let c0_i32_68 : BitVec 32 := 0#32
  let c1_i32_70 : BitVec 32 := 1#32
  let arg6 : BitVec 32 := Scf.iv c0_i32_68 c1_i32_70 k0_t5
  let c16_i32_213 : BitVec 32 := 16#32
  let v325 : BitVec 32 := Scalar.muli arg6 c16_i32_213
  v325
def k0_off4 (k0_t5 : Fin k0_t5_loop.trips) : Fin 1 → Nat :=
  let c0_i32_68 : BitVec 32 := 0#32
  let c1_i32_70 : BitVec 32 := 1#32
  let arg6 : BitVec 32 := Scf.iv c0_i32_68 c1_i32_70 k0_t5
  let c16_i32_213 : BitVec 32 := 16#32
  let v325 : BitVec 32 := Scalar.muli arg6 c16_i32_213
  let v326 : BitVec 32 := v325
  let v327 : Index := Scalar.indexCast v326
  ![v327.toNat]
@[reducible] def k0_t6_loop : Scf.Loop 32 :=
  let c0_i32_73 : BitVec 32 := 0#32
  let c128_i32_74 : BitVec 32 := 128#32
  let v122 : BitVec 32 := Scalar.addi c0_i32_73 c128_i32_74
  let c1_i32_75 : BitVec 32 := 1#32
  ⟨c0_i32_73, v122, c1_i32_75⟩

def k0_chk11 (v327 : IVec S16 32) : Prop :=
  (∀ a x, ((![v327] : Fin 1 → IVec S16 32) a x).toNat < S8192.size a)
theorem k0_idx11_inb : ∀ (v327 : IVec S16 32) (k0_hw11 : k0_chk11 v327), ∀ a x, ((![v327] : Fin 1 → IVec S16 32) a x).toNat < S8192.size a := fun v327 k0_hw11 => k0_hw11

def k0_chk12 (v330 : IVec S16 32) : Prop :=
  (∀ a x, ((![v330] : Fin 1 → IVec S16 32) a x).toNat < S8192.size a)
theorem k0_idx12_inb : ∀ (v330 : IVec S16 32) (k0_hw12 : k0_chk12 v330), ∀ a x, ((![v330] : Fin 1 → IVec S16 32) a x).toNat < S8192.size a := fun v330 k0_hw12 => k0_hw12

def k0_chk13 (v333 : IVec S16 32) : Prop :=
  (∀ a x, ((![v333] : Fin 1 → IVec S16 32) a x).toNat < S8192.size a)
theorem k0_idx13_inb : ∀ (v333 : IVec S16 32) (k0_hw13 : k0_chk13 v333), ∀ a x, ((![v333] : Fin 1 → IVec S16 32) a x).toNat < S8192.size a := fun v333 k0_hw13 => k0_hw13

def k0_chk14 (v336 : IVec S16 32) : Prop :=
  (∀ a x, ((![v336] : Fin 1 → IVec S16 32) a x).toNat < S8192.size a)
theorem k0_idx14_inb : ∀ (v336 : IVec S16 32) (k0_hw14 : k0_chk14 v336), ∀ a x, ((![v336] : Fin 1 → IVec S16 32) a x).toNat < S8192.size a := fun v336 k0_hw14 => k0_hw14

def k0_chk15 (v361 : IVec S16 32) : Prop :=
  (∀ a x, ((![v361] : Fin 1 → IVec S16 32) a x).toNat < S4096.size a)
theorem k0_idx15_inb : ∀ (v361 : IVec S16 32) (k0_hw15 : k0_chk15 v361), ∀ a x, ((![v361] : Fin 1 → IVec S16 32) a x).toNat < S4096.size a := fun v361 k0_hw15 => k0_hw15
@[reducible] def k0_t7_loop : Scf.Loop 32 :=
  let c0_i32_95 : BitVec 32 := 0#32
  let c256_i32_96 : BitVec 32 := 256#32
  let v160 : BitVec 32 := Scalar.addi c0_i32_95 c256_i32_96
  let c1_i32_97 : BitVec 32 := 1#32
  ⟨c0_i32_95, v160, c1_i32_97⟩
def k0_mult4 (k0_t7 : Fin k0_t7_loop.trips) : BitVec 32 :=
  let c0_i32_95 : BitVec 32 := 0#32
  let c1_i32_97 : BitVec 32 := 1#32
  let arg6 : BitVec 32 := Scf.iv c0_i32_95 c1_i32_97 k0_t7
  let c16_i32_213 : BitVec 32 := 16#32
  let v325 : BitVec 32 := Scalar.muli arg6 c16_i32_213
  v325
def k0_off5 (k0_t7 : Fin k0_t7_loop.trips) : Fin 1 → Nat :=
  let c0_i32_95 : BitVec 32 := 0#32
  let c1_i32_97 : BitVec 32 := 1#32
  let arg6 : BitVec 32 := Scf.iv c0_i32_95 c1_i32_97 k0_t7
  let c16_i32_213 : BitVec 32 := 16#32
  let v325 : BitVec 32 := Scalar.muli arg6 c16_i32_213
  let v326 : BitVec 32 := v325
  let v327 : Index := Scalar.indexCast v326
  ![v327.toNat]
@[reducible] def k0_t8_loop : Scf.Loop 32 :=
  let c0_i32_100 : BitVec 32 := 0#32
  let c128_i32_101 : BitVec 32 := 128#32
  let v162 : BitVec 32 := Scalar.addi c0_i32_100 c128_i32_101
  let c1_i32_102 : BitVec 32 := 1#32
  ⟨c0_i32_100, v162, c1_i32_102⟩

def k0_chk16 (v327 : IVec S16 32) : Prop :=
  (∀ a x, ((![v327] : Fin 1 → IVec S16 32) a x).toNat < S8192.size a)
theorem k0_idx16_inb : ∀ (v327 : IVec S16 32) (k0_hw16 : k0_chk16 v327), ∀ a x, ((![v327] : Fin 1 → IVec S16 32) a x).toNat < S8192.size a := fun v327 k0_hw16 => k0_hw16

def k0_chk17 (v330 : IVec S16 32) : Prop :=
  (∀ a x, ((![v330] : Fin 1 → IVec S16 32) a x).toNat < S8192.size a)
theorem k0_idx17_inb : ∀ (v330 : IVec S16 32) (k0_hw17 : k0_chk17 v330), ∀ a x, ((![v330] : Fin 1 → IVec S16 32) a x).toNat < S8192.size a := fun v330 k0_hw17 => k0_hw17

def k0_chk18 (v333 : IVec S16 32) : Prop :=
  (∀ a x, ((![v333] : Fin 1 → IVec S16 32) a x).toNat < S8192.size a)
theorem k0_idx18_inb : ∀ (v333 : IVec S16 32) (k0_hw18 : k0_chk18 v333), ∀ a x, ((![v333] : Fin 1 → IVec S16 32) a x).toNat < S8192.size a := fun v333 k0_hw18 => k0_hw18

def k0_chk19 (v336 : IVec S16 32) : Prop :=
  (∀ a x, ((![v336] : Fin 1 → IVec S16 32) a x).toNat < S8192.size a)
theorem k0_idx19_inb : ∀ (v336 : IVec S16 32) (k0_hw19 : k0_chk19 v336), ∀ a x, ((![v336] : Fin 1 → IVec S16 32) a x).toNat < S8192.size a := fun v336 k0_hw19 => k0_hw19

def k0_chk20 (v361 : IVec S16 32) : Prop :=
  (∀ a x, ((![v361] : Fin 1 → IVec S16 32) a x).toNat < S4096.size a)
theorem k0_idx20_inb : ∀ (v361 : IVec S16 32) (k0_hw20 : k0_chk20 v361), ∀ a x, ((![v361] : Fin 1 → IVec S16 32) a x).toNat < S4096.size a := fun v361 k0_hw20 => k0_hw20
@[reducible] def k0_t9_loop : Scf.Loop 32 :=
  let c0_i32_122 : BitVec 32 := 0#32
  let c256_i32_123 : BitVec 32 := 256#32
  let v200 : BitVec 32 := Scalar.addi c0_i32_122 c256_i32_123
  let c1_i32_124 : BitVec 32 := 1#32
  ⟨c0_i32_122, v200, c1_i32_124⟩
def k0_mult5 (k0_t9 : Fin k0_t9_loop.trips) : BitVec 32 :=
  let c0_i32_122 : BitVec 32 := 0#32
  let c1_i32_124 : BitVec 32 := 1#32
  let arg6 : BitVec 32 := Scf.iv c0_i32_122 c1_i32_124 k0_t9
  let c16_i32_213 : BitVec 32 := 16#32
  let v325 : BitVec 32 := Scalar.muli arg6 c16_i32_213
  v325
def k0_off6 (k0_t9 : Fin k0_t9_loop.trips) : Fin 1 → Nat :=
  let c0_i32_122 : BitVec 32 := 0#32
  let c1_i32_124 : BitVec 32 := 1#32
  let arg6 : BitVec 32 := Scf.iv c0_i32_122 c1_i32_124 k0_t9
  let c16_i32_213 : BitVec 32 := 16#32
  let v325 : BitVec 32 := Scalar.muli arg6 c16_i32_213
  let v326 : BitVec 32 := v325
  let v327 : Index := Scalar.indexCast v326
  ![v327.toNat]
@[reducible] def k0_t10_loop : Scf.Loop 32 :=
  let c0_i32_127 : BitVec 32 := 0#32
  let c128_i32_128 : BitVec 32 := 128#32
  let v202 : BitVec 32 := Scalar.addi c0_i32_127 c128_i32_128
  let c1_i32_129 : BitVec 32 := 1#32
  ⟨c0_i32_127, v202, c1_i32_129⟩

def k0_chk21 (v327 : IVec S16 32) : Prop :=
  (∀ a x, ((![v327] : Fin 1 → IVec S16 32) a x).toNat < S8192.size a)
theorem k0_idx21_inb : ∀ (v327 : IVec S16 32) (k0_hw21 : k0_chk21 v327), ∀ a x, ((![v327] : Fin 1 → IVec S16 32) a x).toNat < S8192.size a := fun v327 k0_hw21 => k0_hw21

def k0_chk22 (v330 : IVec S16 32) : Prop :=
  (∀ a x, ((![v330] : Fin 1 → IVec S16 32) a x).toNat < S8192.size a)
theorem k0_idx22_inb : ∀ (v330 : IVec S16 32) (k0_hw22 : k0_chk22 v330), ∀ a x, ((![v330] : Fin 1 → IVec S16 32) a x).toNat < S8192.size a := fun v330 k0_hw22 => k0_hw22

def k0_chk23 (v333 : IVec S16 32) : Prop :=
  (∀ a x, ((![v333] : Fin 1 → IVec S16 32) a x).toNat < S8192.size a)
theorem k0_idx23_inb : ∀ (v333 : IVec S16 32) (k0_hw23 : k0_chk23 v333), ∀ a x, ((![v333] : Fin 1 → IVec S16 32) a x).toNat < S8192.size a := fun v333 k0_hw23 => k0_hw23

def k0_chk24 (v336 : IVec S16 32) : Prop :=
  (∀ a x, ((![v336] : Fin 1 → IVec S16 32) a x).toNat < S8192.size a)
theorem k0_idx24_inb : ∀ (v336 : IVec S16 32) (k0_hw24 : k0_chk24 v336), ∀ a x, ((![v336] : Fin 1 → IVec S16 32) a x).toNat < S8192.size a := fun v336 k0_hw24 => k0_hw24

def k0_chk25 (v361 : IVec S16 32) : Prop :=
  (∀ a x, ((![v361] : Fin 1 → IVec S16 32) a x).toNat < S4096.size a)
theorem k0_idx25_inb : ∀ (v361 : IVec S16 32) (k0_hw25 : k0_chk25 v361), ∀ a x, ((![v361] : Fin 1 → IVec S16 32) a x).toNat < S4096.size a := fun v361 k0_hw25 => k0_hw25
@[reducible] def k0_t11_loop : Scf.Loop 32 :=
  let c0_i32_149 : BitVec 32 := 0#32
  let c256_i32_150 : BitVec 32 := 256#32
  let v240 : BitVec 32 := Scalar.addi c0_i32_149 c256_i32_150
  let c1_i32_151 : BitVec 32 := 1#32
  ⟨c0_i32_149, v240, c1_i32_151⟩
def k0_mult6 (k0_t11 : Fin k0_t11_loop.trips) : BitVec 32 :=
  let c0_i32_149 : BitVec 32 := 0#32
  let c1_i32_151 : BitVec 32 := 1#32
  let arg6 : BitVec 32 := Scf.iv c0_i32_149 c1_i32_151 k0_t11
  let c16_i32_213 : BitVec 32 := 16#32
  let v325 : BitVec 32 := Scalar.muli arg6 c16_i32_213
  v325
def k0_off7 (k0_t11 : Fin k0_t11_loop.trips) : Fin 1 → Nat :=
  let c0_i32_149 : BitVec 32 := 0#32
  let c1_i32_151 : BitVec 32 := 1#32
  let arg6 : BitVec 32 := Scf.iv c0_i32_149 c1_i32_151 k0_t11
  let c16_i32_213 : BitVec 32 := 16#32
  let v325 : BitVec 32 := Scalar.muli arg6 c16_i32_213
  let v326 : BitVec 32 := v325
  let v327 : Index := Scalar.indexCast v326
  ![v327.toNat]
@[reducible] def k0_t12_loop : Scf.Loop 32 :=
  let c0_i32_154 : BitVec 32 := 0#32
  let c128_i32_155 : BitVec 32 := 128#32
  let v242 : BitVec 32 := Scalar.addi c0_i32_154 c128_i32_155
  let c1_i32_156 : BitVec 32 := 1#32
  ⟨c0_i32_154, v242, c1_i32_156⟩

def k0_chk26 (v327 : IVec S16 32) : Prop :=
  (∀ a x, ((![v327] : Fin 1 → IVec S16 32) a x).toNat < S8192.size a)
theorem k0_idx26_inb : ∀ (v327 : IVec S16 32) (k0_hw26 : k0_chk26 v327), ∀ a x, ((![v327] : Fin 1 → IVec S16 32) a x).toNat < S8192.size a := fun v327 k0_hw26 => k0_hw26

def k0_chk27 (v330 : IVec S16 32) : Prop :=
  (∀ a x, ((![v330] : Fin 1 → IVec S16 32) a x).toNat < S8192.size a)
theorem k0_idx27_inb : ∀ (v330 : IVec S16 32) (k0_hw27 : k0_chk27 v330), ∀ a x, ((![v330] : Fin 1 → IVec S16 32) a x).toNat < S8192.size a := fun v330 k0_hw27 => k0_hw27

def k0_chk28 (v333 : IVec S16 32) : Prop :=
  (∀ a x, ((![v333] : Fin 1 → IVec S16 32) a x).toNat < S8192.size a)
theorem k0_idx28_inb : ∀ (v333 : IVec S16 32) (k0_hw28 : k0_chk28 v333), ∀ a x, ((![v333] : Fin 1 → IVec S16 32) a x).toNat < S8192.size a := fun v333 k0_hw28 => k0_hw28

def k0_chk29 (v336 : IVec S16 32) : Prop :=
  (∀ a x, ((![v336] : Fin 1 → IVec S16 32) a x).toNat < S8192.size a)
theorem k0_idx29_inb : ∀ (v336 : IVec S16 32) (k0_hw29 : k0_chk29 v336), ∀ a x, ((![v336] : Fin 1 → IVec S16 32) a x).toNat < S8192.size a := fun v336 k0_hw29 => k0_hw29

def k0_chk30 (v361 : IVec S16 32) : Prop :=
  (∀ a x, ((![v361] : Fin 1 → IVec S16 32) a x).toNat < S4096.size a)
theorem k0_idx30_inb : ∀ (v361 : IVec S16 32) (k0_hw30 : k0_chk30 v361), ∀ a x, ((![v361] : Fin 1 → IVec S16 32) a x).toNat < S4096.size a := fun v361 k0_hw30 => k0_hw30
@[reducible] def k0_t13_loop : Scf.Loop 32 :=
  let c0_i32_176 : BitVec 32 := 0#32
  let c256_i32_177 : BitVec 32 := 256#32
  let v280 : BitVec 32 := Scalar.addi c0_i32_176 c256_i32_177
  let c1_i32_178 : BitVec 32 := 1#32
  ⟨c0_i32_176, v280, c1_i32_178⟩
def k0_mult7 (k0_t13 : Fin k0_t13_loop.trips) : BitVec 32 :=
  let c0_i32_176 : BitVec 32 := 0#32
  let c1_i32_178 : BitVec 32 := 1#32
  let arg6 : BitVec 32 := Scf.iv c0_i32_176 c1_i32_178 k0_t13
  let c16_i32_213 : BitVec 32 := 16#32
  let v325 : BitVec 32 := Scalar.muli arg6 c16_i32_213
  v325
def k0_off8 (k0_t13 : Fin k0_t13_loop.trips) : Fin 1 → Nat :=
  let c0_i32_176 : BitVec 32 := 0#32
  let c1_i32_178 : BitVec 32 := 1#32
  let arg6 : BitVec 32 := Scf.iv c0_i32_176 c1_i32_178 k0_t13
  let c16_i32_213 : BitVec 32 := 16#32
  let v325 : BitVec 32 := Scalar.muli arg6 c16_i32_213
  let v326 : BitVec 32 := v325
  let v327 : Index := Scalar.indexCast v326
  ![v327.toNat]
@[reducible] def k0_t14_loop : Scf.Loop 32 :=
  let c0_i32_181 : BitVec 32 := 0#32
  let c128_i32_182 : BitVec 32 := 128#32
  let v282 : BitVec 32 := Scalar.addi c0_i32_181 c128_i32_182
  let c1_i32_183 : BitVec 32 := 1#32
  ⟨c0_i32_181, v282, c1_i32_183⟩

def k0_chk31 (v327 : IVec S16 32) : Prop :=
  (∀ a x, ((![v327] : Fin 1 → IVec S16 32) a x).toNat < S8192.size a)
theorem k0_idx31_inb : ∀ (v327 : IVec S16 32) (k0_hw31 : k0_chk31 v327), ∀ a x, ((![v327] : Fin 1 → IVec S16 32) a x).toNat < S8192.size a := fun v327 k0_hw31 => k0_hw31

def k0_chk32 (v330 : IVec S16 32) : Prop :=
  (∀ a x, ((![v330] : Fin 1 → IVec S16 32) a x).toNat < S8192.size a)
theorem k0_idx32_inb : ∀ (v330 : IVec S16 32) (k0_hw32 : k0_chk32 v330), ∀ a x, ((![v330] : Fin 1 → IVec S16 32) a x).toNat < S8192.size a := fun v330 k0_hw32 => k0_hw32

def k0_chk33 (v333 : IVec S16 32) : Prop :=
  (∀ a x, ((![v333] : Fin 1 → IVec S16 32) a x).toNat < S8192.size a)
theorem k0_idx33_inb : ∀ (v333 : IVec S16 32) (k0_hw33 : k0_chk33 v333), ∀ a x, ((![v333] : Fin 1 → IVec S16 32) a x).toNat < S8192.size a := fun v333 k0_hw33 => k0_hw33

def k0_chk34 (v336 : IVec S16 32) : Prop :=
  (∀ a x, ((![v336] : Fin 1 → IVec S16 32) a x).toNat < S8192.size a)
theorem k0_idx34_inb : ∀ (v336 : IVec S16 32) (k0_hw34 : k0_chk34 v336), ∀ a x, ((![v336] : Fin 1 → IVec S16 32) a x).toNat < S8192.size a := fun v336 k0_hw34 => k0_hw34

def k0_chk35 (v361 : IVec S16 32) : Prop :=
  (∀ a x, ((![v361] : Fin 1 → IVec S16 32) a x).toNat < S4096.size a)
theorem k0_idx35_inb : ∀ (v361 : IVec S16 32) (k0_hw35 : k0_chk35 v361), ∀ a x, ((![v361] : Fin 1 → IVec S16 32) a x).toNat < S4096.size a := fun v361 k0_hw35 => k0_hw35
@[reducible] def k0_t15_loop : Scf.Loop 32 :=
  let c0_i32_203 : BitVec 32 := 0#32
  let c256_i32_204 : BitVec 32 := 256#32
  let v320 : BitVec 32 := Scalar.addi c0_i32_203 c256_i32_204
  let c1_i32_205 : BitVec 32 := 1#32
  ⟨c0_i32_203, v320, c1_i32_205⟩
def k0_mult8 (k0_t15 : Fin k0_t15_loop.trips) : BitVec 32 :=
  let c0_i32_203 : BitVec 32 := 0#32
  let c1_i32_205 : BitVec 32 := 1#32
  let arg6 : BitVec 32 := Scf.iv c0_i32_203 c1_i32_205 k0_t15
  let c16_i32_213 : BitVec 32 := 16#32
  let v325 : BitVec 32 := Scalar.muli arg6 c16_i32_213
  v325
def k0_off9 (k0_t15 : Fin k0_t15_loop.trips) : Fin 1 → Nat :=
  let c0_i32_203 : BitVec 32 := 0#32
  let c1_i32_205 : BitVec 32 := 1#32
  let arg6 : BitVec 32 := Scf.iv c0_i32_203 c1_i32_205 k0_t15
  let c16_i32_213 : BitVec 32 := 16#32
  let v325 : BitVec 32 := Scalar.muli arg6 c16_i32_213
  let v326 : BitVec 32 := v325
  let v327 : Index := Scalar.indexCast v326
  ![v327.toNat]
@[reducible] def k0_t16_loop : Scf.Loop 32 :=
  let c0_i32_208 : BitVec 32 := 0#32
  let c128_i32_209 : BitVec 32 := 128#32
  let v322 : BitVec 32 := Scalar.addi c0_i32_208 c128_i32_209
  let c1_i32_210 : BitVec 32 := 1#32
  ⟨c0_i32_208, v322, c1_i32_210⟩

def k0_chk36 (v327 : IVec S16 32) : Prop :=
  (∀ a x, ((![v327] : Fin 1 → IVec S16 32) a x).toNat < S8192.size a)
theorem k0_idx36_inb : ∀ (v327 : IVec S16 32) (k0_hw36 : k0_chk36 v327), ∀ a x, ((![v327] : Fin 1 → IVec S16 32) a x).toNat < S8192.size a := fun v327 k0_hw36 => k0_hw36

def k0_chk37 (v330 : IVec S16 32) : Prop :=
  (∀ a x, ((![v330] : Fin 1 → IVec S16 32) a x).toNat < S8192.size a)
theorem k0_idx37_inb : ∀ (v330 : IVec S16 32) (k0_hw37 : k0_chk37 v330), ∀ a x, ((![v330] : Fin 1 → IVec S16 32) a x).toNat < S8192.size a := fun v330 k0_hw37 => k0_hw37

def k0_chk38 (v333 : IVec S16 32) : Prop :=
  (∀ a x, ((![v333] : Fin 1 → IVec S16 32) a x).toNat < S8192.size a)
theorem k0_idx38_inb : ∀ (v333 : IVec S16 32) (k0_hw38 : k0_chk38 v333), ∀ a x, ((![v333] : Fin 1 → IVec S16 32) a x).toNat < S8192.size a := fun v333 k0_hw38 => k0_hw38

def k0_chk39 (v336 : IVec S16 32) : Prop :=
  (∀ a x, ((![v336] : Fin 1 → IVec S16 32) a x).toNat < S8192.size a)
theorem k0_idx39_inb : ∀ (v336 : IVec S16 32) (k0_hw39 : k0_chk39 v336), ∀ a x, ((![v336] : Fin 1 → IVec S16 32) a x).toNat < S8192.size a := fun v336 k0_hw39 => k0_hw39

def k0_chk40 (v361 : IVec S16 32) : Prop :=
  (∀ a x, ((![v361] : Fin 1 → IVec S16 32) a x).toNat < S4096.size a)
theorem k0_idx40_inb : ∀ (v361 : IVec S16 32) (k0_hw40 : k0_chk40 v361), ∀ a x, ((![v361] : Fin 1 → IVec S16 32) a x).toNat < S4096.size a := fun v361 k0_hw40 => k0_hw40
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x32x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128x2 : Shape := ⟨3, ![16, 128, 2]⟩
abbrev S1x64x256x256 : Shape := ⟨4, ![1, 64, 256, 256]⟩
abbrev S16x128x1 : Shape := ⟨3, ![16, 128, 1]⟩
abbrev S16x128 : Shape := ⟨2, ![16, 128]⟩
abbrev S_ : Shape := ⟨0, ![]⟩
abbrev S256 : Shape := ⟨1, ![256]⟩
abbrev S256x256 : Shape := ⟨2, ![256, 256]⟩
abbrev S65536 : Shape := ⟨1, ![65536]⟩
abbrev S1x65536 : Shape := ⟨2, ![1, 65536]⟩
abbrev S16x127 : Shape := ⟨2, ![16, 127]⟩
abbrev S16x1 : Shape := ⟨2, ![16, 1]⟩
abbrev S1x1x65536 : Shape := ⟨3, ![1, 1, 65536]⟩
abbrev S16x128x65536 : Shape := ⟨3, ![16, 128, 65536]⟩
abbrev S16x65536 : Shape := ⟨2, ![16, 65536]⟩
abbrev S16x256x256 : Shape := ⟨3, ![16, 256, 256]⟩
abbrev S1x16x256x256 : Shape := ⟨4, ![1, 16, 256, 256]⟩
abbrev S1x256x256 : Shape := ⟨3, ![1, 256, 256]⟩
abbrev S1x1x256x256 : Shape := ⟨4, ![1, 1, 256, 256]⟩

abbrev nBuf : Space → Nat
  | .hbm => 112
  | .vmem => 0
  | .smem => 0
  | _ => 0

abbrev bufTy : (tb : Table) → Fin (tcTables nBuf tb) → BufTy
  | .hbm, ⟨0, _⟩ => ⟨S16x128x2, .f32⟩
  | .hbm, ⟨1, _⟩ => ⟨S1x64x256x256, .f32⟩
  | .hbm, ⟨2, _⟩ => ⟨S16x128x1, .f32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128x1, .f32⟩
  | .hbm, ⟨13, _⟩ => ⟨S16x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S16x128x1, .f32⟩
  | .hbm, ⟨23, _⟩ => ⟨S16x128x1, .f32⟩
  | .hbm, ⟨24, _⟩ => ⟨S16x128x2, .f32⟩
  | .hbm, ⟨25, _⟩ => ⟨S256, .f32⟩
  | .hbm, ⟨26, _⟩ => ⟨S256, .f32⟩
  | .hbm, ⟨27, _⟩ => ⟨S256x256, .f32⟩
  | .hbm, ⟨28, _⟩ => ⟨S256x256, .f32⟩
  | .hbm, ⟨29, _⟩ => ⟨S65536, .f32⟩
  | .hbm, ⟨30, _⟩ => ⟨S1x65536, .f32⟩
  | .hbm, ⟨31, _⟩ => ⟨S65536, .f32⟩
  | .hbm, ⟨32, _⟩ => ⟨S1x65536, .f32⟩
  | .hbm, ⟨33, _⟩ => ⟨S16x128x1, .f32⟩
  | .hbm, ⟨34, _⟩ => ⟨S16x128, .f32⟩
  | .hbm, ⟨35, _⟩ => ⟨S16x128x1, .f32⟩
  | .hbm, ⟨36, _⟩ => ⟨S16x128, .f32⟩
  | .hbm, ⟨37, _⟩ => ⟨S16x127, .f32⟩
  | .hbm, ⟨38, _⟩ => ⟨S16x1, .f32⟩
  | .hbm, ⟨39, _⟩ => ⟨S16x128, .f32⟩
  | .hbm, ⟨40, _⟩ => ⟨S16x127, .f32⟩
  | .hbm, ⟨41, _⟩ => ⟨S16x1, .f32⟩
  | .hbm, ⟨42, _⟩ => ⟨S16x128, .f32⟩
  | .hbm, ⟨43, _⟩ => ⟨S16x128x1, .f32⟩
  | .hbm, ⟨44, _⟩ => ⟨S16x128x1, .f32⟩
  | .hbm, ⟨45, _⟩ => ⟨S16x128x1, .f32⟩
  | .hbm, ⟨46, _⟩ => ⟨S16x128x1, .f32⟩
  | .hbm, ⟨47, _⟩ => ⟨S1x1x65536, .f32⟩
  | .hbm, ⟨48, _⟩ => ⟨S16x128x65536, .f32⟩
  | .hbm, ⟨49, _⟩ => ⟨S16x128x65536, .f32⟩
  | .hbm, ⟨50, _⟩ => ⟨S16x128x65536, .i1⟩
  | .hbm, ⟨51, _⟩ => ⟨S1x1x65536, .f32⟩
  | .hbm, ⟨52, _⟩ => ⟨S16x128x65536, .f32⟩
  | .hbm, ⟨53, _⟩ => ⟨S16x128x65536, .f32⟩
  | .hbm, ⟨54, _⟩ => ⟨S16x128x65536, .i1⟩
  | .hbm, ⟨55, _⟩ => ⟨S16x128x65536, .i1⟩
  | .hbm, ⟨56, _⟩ => ⟨S1x1x65536, .f32⟩
  | .hbm, ⟨57, _⟩ => ⟨S16x128x65536, .f32⟩
  | .hbm, ⟨58, _⟩ => ⟨S16x128x65536, .f32⟩
  | .hbm, ⟨59, _⟩ => ⟨S16x128x65536, .f32⟩
  | .hbm, ⟨60, _⟩ => ⟨S16x128x1, .f32⟩
  | .hbm, ⟨61, _⟩ => ⟨S_, .f32⟩
  | .hbm, ⟨62, _⟩ => ⟨S16x128x1, .f32⟩
  | .hbm, ⟨63, _⟩ => ⟨S16x128x1, .f32⟩
  | .hbm, ⟨64, _⟩ => ⟨S16x128x65536, .f32⟩
  | .hbm, ⟨65, _⟩ => ⟨S16x128x65536, .f32⟩
  | .hbm, ⟨66, _⟩ => ⟨S16x128x1, .f32⟩
  | .hbm, ⟨67, _⟩ => ⟨S16x128x65536, .f32⟩
  | .hbm, ⟨68, _⟩ => ⟨S16x128x65536, .f32⟩
  | .hbm, ⟨69, _⟩ => ⟨S16x128x65536, .f32⟩
  | .hbm, ⟨70, _⟩ => ⟨S16x128x65536, .f32⟩
  | .hbm, ⟨71, _⟩ => ⟨S1x1x65536, .f32⟩
  | .hbm, ⟨72, _⟩ => ⟨S16x128x65536, .f32⟩
  | .hbm, ⟨73, _⟩ => ⟨S16x128x65536, .i1⟩
  | .hbm, ⟨74, _⟩ => ⟨S16x128x65536, .i1⟩
  | .hbm, ⟨75, _⟩ => ⟨S16x128x65536, .i32⟩
  | .hbm, ⟨76, _⟩ => ⟨S_, .i32⟩
  | .hbm, ⟨77, _⟩ => ⟨S16x65536, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S16x65536, .i32⟩
  | .hbm, ⟨85, _⟩ => ⟨S16x65536, .i32⟩
  | .hbm, ⟨86, _⟩ => ⟨S_, .i32⟩
  | .hbm, ⟨87, _⟩ => ⟨S16x65536, .i32⟩
  | .hbm, ⟨88, _⟩ => ⟨S16x65536, .i1⟩
  | .hbm, ⟨89, _⟩ => ⟨S_, .i32⟩
  | .hbm, ⟨90, _⟩ => ⟨S16x65536, .i32⟩
  | .hbm, ⟨91, _⟩ => ⟨S16x65536, .i1⟩
  | .hbm, ⟨92, _⟩ => ⟨S_, .i32⟩
  | .hbm, ⟨93, _⟩ => ⟨S_, .i1⟩
  | .hbm, ⟨94, _⟩ => ⟨S16x65536, .i1⟩
  | .hbm, ⟨95, _⟩ => ⟨S16x65536, .i1⟩
  | .hbm, ⟨96, _⟩ => ⟨S16x65536, .i1⟩
  | .hbm, ⟨97, _⟩ => ⟨S16x65536, .i32⟩
  | .hbm, ⟨98, _⟩ => ⟨S16x65536, .i32⟩
  | .hbm, ⟨99, _⟩ => ⟨S16x65536, .i32⟩
  | .hbm, ⟨100, _⟩ => ⟨S16x65536, .f32⟩
  | .hbm, ⟨101, _⟩ => ⟨S16x256x256, .f32⟩
  | .hbm, ⟨102, _⟩ => ⟨S1x16x256x256, .f32⟩
  | .hbm, ⟨103, _⟩ => ⟨S_, .f32⟩
  | .hbm, ⟨104, _⟩ => ⟨S1x256x256, .f32⟩
  | .hbm, ⟨105, _⟩ => ⟨S1x1x256x256, .f32⟩
  | .hbm, ⟨106, _⟩ => ⟨S1x64x256x256, .f32⟩
  | .hbm, ⟨107, _⟩ => ⟨S1x64x256x256, .f32⟩
  | .hbm, ⟨108, _⟩ => ⟨S1x64x256x256, .f32⟩
  | .hbm, ⟨109, _⟩ => ⟨S_, .f32⟩
  | .hbm, ⟨110, _⟩ => ⟨S1x64x256x256, .f32⟩
  | .hbm, ⟨111, _⟩ => ⟨S1x64x256x256, .f32⟩
  | _, _ => ⟨S16x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call2_v0 : Ref sig .tc := ⟨.hbm, 37, rfl⟩
abbrev main_call2_v1 : Ref sig .tc := ⟨.hbm, 38, rfl⟩
abbrev main_v21 : Ref sig .tc := ⟨.hbm, 39, rfl⟩
abbrev main_call3_v0 : Ref sig .tc := ⟨.hbm, 40, rfl⟩
abbrev main_call3_v1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_c_4 : Ref sig .tc := ⟨.hbm, 78, rfl⟩
abbrev main_call4_v0 : Ref sig .tc := ⟨.hbm, 79, rfl⟩
abbrev main_call4_c : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_c_1 : Ref sig .tc := ⟨.hbm, 86, rfl⟩
abbrev main_call4_v5 : Ref sig .tc := ⟨.hbm, 87, rfl⟩
abbrev main_call4_v6 : Ref sig .tc := ⟨.hbm, 88, rfl⟩
abbrev main_call4_c_2 : Ref sig .tc := ⟨.hbm, 89, rfl⟩
abbrev main_call4_v7 : Ref sig .tc := ⟨.hbm, 90, rfl⟩
abbrev main_call4_v8 : Ref sig .tc := ⟨.hbm, 91, rfl⟩
abbrev main_call4_c_3 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_5 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_call5_cst : Ref sig .tc := ⟨.hbm, 109, rfl⟩
abbrev main_call5_v0 : Ref sig .tc := ⟨.hbm, 110, rfl⟩
abbrev main_v65 : Ref sig .tc := ⟨.hbm, 111, rfl⟩

abbrev nD : Nat := 1
abbrev τ : Topo := Topo.v7x

variable {F : FTy → Type} [FloatOps F]
-- ==== Proof.Hist.lean ====
/-
  The histogram the SparseCore kernel builds, as plain functions, at any floating-point values.

  One edge of a polygon runs from `(ax, ay)` to `(bx, by)`. At the pixel row whose height is `py` the edge either crosses
  the row or not (`crosses`); `xint` is where the crossing lies, `col` that number rounded up to a 32-bit integer, `slot`
  the same clamped into the 256 columns, and `hit` says whether the crossing is counted.
  `histAt` is one word of the histogram after the first `n` edges of a polygon.
-/
module

public import Idealize.ShloMosaic.Lib.SparseCore
public import Idealize.ShloMosaic.PureOps

@[expose] public section

noncomputable section

namespace Cert.Proof.Hist

open Idealize.ShloMosaic

variable {F : FTy → Type} [FloatOps F]

/-- A vector of `n` numbers, as a shape. -/
abbrev Vn (n : ℕ) : Shape := ⟨1, ![n]⟩

/-! ## One edge against one row -/

/-- Where the line through the edge meets the row. -/
def xint (ax ay bx bY py : F .f32) : F .f32 :=
  FloatOps.addf ax (FloatOps.mulf (FloatOps.divf (FloatOps.subf py ay)
    (FloatOps.addf (FloatOps.subf bY ay) (Scalar.ofBits .f32 0x3089705F#32))) (FloatOps.subf bx ax))

/-- A number rounded up to a 32-bit integer: cut off, and one more if something was cut off. -/
def roundUp (x : F .f32) : BitVec 32 :=
  IntOp.addi (FloatOps.fptosi 32 x) ((FloatOps.cmpf .ogt x (FloatOps.sitofp .f32 (FloatOps.fptosi 32 x))).setWidth 32)

/-- The first column at or right of the crossing, as a word. -/
def col (ax ay bx bY py : F .f32) : BitVec 32 := roundUp (xint ax ay bx bY py)

/-- One if the edge's ends lie on different sides of the row. -/
def crosses (ay bY py : F .f32) : BitVec 1 := IntOp.xori (FloatOps.cmpf .ogt ay py) (FloatOps.cmpf .ogt bY py)

/-- One if the crossing is counted: the edge crosses the row left of the image's right border. -/
def hit (ax ay bx bY py : F .f32) : BitVec 1 :=
  IntOp.andi (crosses ay bY py) (IntOp.cmpi .slt (col ax ay bx bY py) 256#32)

/-- The word of the row the crossing is counted at. -/
def slotOf (c : BitVec 32) : BitVec 32 := IntOp.minsi (IntOp.maxsi c 0#32) 255#32

theorem slotOf_lt (c : BitVec 32) : (slotOf c).toNat < 256 := by
  simp only [slotOf, IntOp.minsi, IntOp.maxsi, BitVec.slt_iff_toInt_lt]
  have h0 : (0#32).toInt = 0 := by decide
  have h255 : (255#32).toInt = 255 := by decide
  have hc := BitVec.toInt_eq_toNat_cond c
  have hlt := c.isLt
  rw [h0, h255]
  by_cases h : 0 < c.toInt
  · rw [if_pos h]
    by_cases h2 : c.toInt < 255
    · rw [if_pos h2]; split at hc <;> omega
    · rw [if_neg h2]; decide
  · rw [if_neg h]; decide

/-- One edge's contribution to column `b` of the row. -/
def bump (ax ay bx bY py : F .f32) (b : ℕ) (g : F .f32) : F .f32 :=
  if hit ax ay bx bY py = 1 ∧ (slotOf (col ax ay bx bY py)).toNat = b then
    FloatOps.idxAddf g (Scalar.ofBits .f32 0x3F800000#32) else g

/-! ## A row's histogram -/

/-- The height of pixel row `y`. -/
def rowH (y : ℕ) : F .f32 := FloatOps.sitofp .f32 (BitVec.ofNat 32 y)

/-- The table's contents as a function of every natural number. -/
def tot (f : (Vn 8192).Idx → F .f32) (n : ℕ) : F .f32 := f (Shape.ofLane (d := ![8192]) ⟨n % 8192, Nat.mod_lt _ (by decide)⟩)

/-- Column `b` of row `y` of polygon `p` after the polygon's first `n` edges. The table `E` holds for every polygon 128
    numbers each of the edges' starts, left to right and bottom to top, and of their ends likewise. -/
def histAt (E : ℕ → F .f32) (p y b : ℕ) : ℕ → F .f32
  | 0 => Scalar.ofBits .f32 0x00000000#32
  | e + 1 => bump (E (p * 512 + e)) (E (p * 512 + e + 128)) (E (p * 512 + e + 256)) (E (p * 512 + e + 384)) (rowH y) b
      (histAt E p y b e)

/-- Word `w` of the whole histogram: polygons by rows by columns. -/
def histWord (E : ℕ → F .f32) (w : ℕ) : F .f32 := histAt E (w / 65536) (w / 256 % 256) (w % 256) 128

/-! ## The scatter into sixteen rows -/

/-- The lane whose row holds word `j`. -/
def laneOf (j : (Vn 4096).Idx) : (Vn 16).Idx := Shape.ofLane (d := ![16]) ⟨(j 0).val / 256, by
  have h : (j 0).val < 4096 := (j 0).isLt
  show _ < 16; omega⟩

/-- The same lane, as a number. -/
def laneN (j : (Vn 4096).Idx) : Fin 16 := (laneOf j) 0

/-- Lane `k`, as an index. -/
def lane (k : Fin 16) : (Vn 16).Idx := Shape.ofLane (d := ![16]) k

theorem lane_eq (j : (Vn 4096).Idx) (k : Fin 16) : lane k = laneOf j ↔ laneN j = k := by
  constructor
  · intro e; unfold laneN; rw [← e]; rfl
  · intro e; subst e; funext a; rw [Fin.eq_zero a]; rfl

section Scatter

variable (ix : IVec (Vn 16) 32) (v : Vec F (Vn 16) .f32) (mask : IVec (Vn 16) 1)
  (h : ∀ a x, ((![ix] : Fin 1 → IVec (Vn 16) 32) a x).toNat < (Vn 4096).size a)

/-- One lane's part of the scatter. -/
def putLane (g : Vec F (Vn 4096) .f32) (k : Fin 16) : Vec F (Vn 4096) .f32 :=
  if mask (lane k) = 1 then
    fun j => if (∀ a, (j a).val = (idxAt (s := Vn 4096) (![ix] : Fin 1 → IVec (Vn 16) 32) h (lane k) a).val) then
      FloatOps.idxAddf (g (idxAt (s := Vn 4096) (![ix] : Fin 1 → IVec (Vn 16) 32) h (lane k))) (v (lane k)) else g j
  else g

theorem storeIdx_fold (G : Vec F (Vn 4096) .f32) :
    storeIdx (F := F) (s := Vn 4096) (e := .f32) (d := ![16]) G ![ix] v mask true h = (List.finRange 16).foldl (putLane ix v mask h) G := rfl

/-- A lane whose row the word is not in leaves the word. -/
theorem putLane_other (hrow : ∀ x : (Vn 16).Idx, (ix x).toNat / 256 = (x 0).val) (g : Vec F (Vn 4096) .f32) (k : Fin 16)
    (j : (Vn 4096).Idx) (hk : laneN j ≠ k) : putLane ix v mask h g k j = g j := by
  unfold putLane
  split
  · refine if_neg fun c => hk ?_
    have h0 : (j 0).val = (ix (lane k)).toNat := c 0
    have := hrow (lane k)
    refine Fin.ext ?_
    show (j 0).val / 256 = k.val
    rw [h0, this]; rfl
  · rfl

/-- The word's own lane adds to it if set and naming it. -/
theorem putLane_own (g : Vec F (Vn 4096) .f32) (j : (Vn 4096).Idx) :
    putLane ix v mask h g (laneN j) j
      = if mask (laneOf j) = 1 ∧ (ix (laneOf j)).toNat = (j 0).val then FloatOps.idxAddf (g j) (v (laneOf j)) else g j := by
  unfold putLane
  rw [(lane_eq j (laneN j)).mpr rfl]
  by_cases hm : mask (laneOf j) = 1
  · rw [if_pos hm]
    by_cases hi : (ix (laneOf j)).toNat = (j 0).val
    · have e : idxAt (s := Vn 4096) (![ix] : Fin 1 → IVec (Vn 16) 32) h (laneOf j) = j := by
        funext a; rw [Fin.eq_zero a]; exact Fin.ext hi
      rw [e, if_pos fun _ => rfl, if_pos ⟨hm, hi⟩]
    · rw [if_neg fun c => hi (c 0).symm, if_neg fun c => hi c.2]
  · rw [if_neg hm, if_neg fun c => hm c.1]

theorem fold_lanes (hrow : ∀ x : (Vn 16).Idx, (ix x).toNat / 256 = (x 0).val) (j : (Vn 4096).Idx) :
    ∀ (L : List (Fin 16)) (_ : L.Nodup) (G : Vec F (Vn 4096) .f32),
      L.foldl (putLane ix v mask h) G j
      = if laneN j ∈ L ∧ mask (laneOf j) = 1 ∧ (ix (laneOf j)).toNat = (j 0).val
          then FloatOps.idxAddf (G j) (v (laneOf j)) else G j := by
  intro L
  induction L with
  | nil => intro _ G; simp
  | cons k L ih =>
    intro hnd G
    rw [List.nodup_cons] at hnd
    rw [List.foldl_cons, ih hnd.2]
    by_cases hk : laneN j = k
    · have hnot : ¬ laneN j ∈ L := by rw [hk]; exact hnd.1
      rw [if_neg (fun c => hnot c.1)]
      subst hk
      rw [putLane_own]
      simp
    · rw [putLane_other ix v mask h hrow G k j hk]
      simp [hk]

/-- A scatter with addition whose sixteen lanes each name a word of a row of their own: every word takes its lane's
    addend if the lane is set and names it. -/
theorem storeIdx_rows (G : Vec F (Vn 4096) .f32) (hrow : ∀ x : (Vn 16).Idx, (ix x).toNat / 256 = (x 0).val) (j : (Vn 4096).Idx) :
    storeIdx (F := F) (s := Vn 4096) (e := .f32) (d := ![16]) G ![ix] v mask true h j
      = if mask (laneOf j) = 1 ∧ (ix (laneOf j)).toNat = (j 0).val then FloatOps.idxAddf (G j) (v (laneOf j)) else G j := by
  rw [storeIdx_fold, fold_lanes ix v mask h hrow j _ (List.nodup_finRange 16)]
  simp

end Scatter

/-! ## The task's number, its polygon and its group of rows -/

/-- The quotient by 16 as the kernel computes it (rounding down, by a quotient rounded towards zero), -/
def quo16 (t : BitVec 32) : BitVec 32 :=
  Scalar.select (Scalar.andi (Scalar.cmpi .ne
      (Scalar.subi (Scalar.extui (Scalar.cmpi .sgt t 0#32)) (Scalar.extui (Scalar.cmpi .slt t 0#32)))
      (Scalar.subi (Scalar.extui (Scalar.cmpi .sgt 16#32 0#32)) (Scalar.extui (Scalar.cmpi .slt 16#32 0#32))))
      (Scalar.cmpi .ne (Scalar.remsi t 16#32) 0#32))
    (Scalar.subi (Scalar.divsi t 16#32) 1#32) (Scalar.divsi t 16#32)
/-- and the remainder, -/
def rem16 (t : BitVec 32) : BitVec 32 :=
  Scalar.select (Scalar.andi (Scalar.xori (Scalar.cmpi .slt (Scalar.remsi t (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi t (Scalar.select (Scalar.cmpi .eq 16#32 0#32) 1#32 16#32)) 0#32))
    (Scalar.addi (Scalar.remsi t (Scalar.select (Scalar.cmpi .eq 16#32 0#32) 1#32 16#32)) (Scalar.select (Scalar.cmpi .eq 16#32 0#32) 1#32 16#32))
    (Scalar.remsi t (Scalar.select (Scalar.cmpi .eq 16#32 0#32) 1#32 16#32))
/-- and both at the 256 tasks. -/
theorem quo16_eq : ∀ t : Fin 256, quo16 (BitVec.ofNat 32 t.val) = BitVec.ofNat 32 (t.val / 16) := by decide +kernel
theorem rem16_eq : ∀ t : Fin 256, rem16 (BitVec.ofNat 32 t.val) = BitVec.ofNat 32 (t.val % 16) := by decide +kernel

/-- Task `k` of the tile at SparseCore `c`, subcore `s`, as the kernel computes it. -/
def taskW (c s : ℕ) (k : BitVec 32) : BitVec 32 :=
  Scalar.addi (Scalar.muli (Scalar.addi (Scalar.muli (BitVec.ofNat 32 s) 2#32) (BitVec.ofNat 32 c)) 8#32) k
theorem taskW_eq : ∀ (c : Fin 2) (s : Fin 16) (k : Fin 8),
    taskW c.val s.val (BitVec.ofNat 32 k.val) = BitVec.ofNat 32 ((s.val * 2 + c.val) * 8 + k.val) := by decide +kernel

end Cert.Proof.Hist

end
-- ==== Proof.Slab.lean ====
/-
  Thirty-two rows of a stack of 256 × 256 planes, and the whole stack computed slab by slab.
-/
module

public import Idealize.ShloMosaic.Lib.PointwiseCore

@[expose] public section

namespace Cert.Proof.Slab

open Idealize.ShloMosaic

/-- Stacks of `n` planes, whole and cut to thirty-two rows. -/
abbrev Whole (n : ℕ) : Shape := ⟨3, ![n, 256, 256]⟩
abbrev Cut (n : ℕ) : Shape := ⟨3, ![n, 32, 256]⟩

/-- Slab `t` of a stack. -/
def slab {n : ℕ} {α : Type} (h : (Whole n).Idx → α) (t : Fin 8) : (Cut n).Idx → α := fun j =>
  h (ix3 (n0 := n) (n1 := 256) (n2 := 256) (j 0) ⟨32 * t.val + (j 1).val, by have h1 : (j 1).val < 32 := (j 1).isLt; omega⟩ (j 2))

/-- The slab an index lies in, and its place there. -/
def slabOf {n : ℕ} (i : (Whole n).Idx) : Fin 8 := ⟨(i 1).val / 32, by have h1 : (i 1).val < 256 := (i 1).isLt; omega⟩
def place {n : ℕ} (i : (Whole n).Idx) : (Cut n).Idx :=
  ix3 (n0 := n) (n1 := 32) (n2 := 256) (i 0) ⟨(i 1).val % 32, Nat.mod_lt _ (by decide)⟩ (i 2)

/-- The stack whose slab `t` is `g t`. -/
def glue {n : ℕ} {α : Type} (g : Fin 8 → (Cut n).Idx → α) : (Whole n).Idx → α := fun i => g (slabOf i) (place i)

/-- The glued stack at an index of slab `t`. -/
theorem glue_at {n : ℕ} {α : Type} (g : Fin 8 → (Cut n).Idx → α) (t : Fin 8) (j : (Cut n).Idx) (i : (Whole n).Idx)
    (h0 : (i 0).val = (j 0).val) (h1 : (i 1).val = 32 * t.val + (j 1).val) (h2 : (i 2).val = (j 2).val) : glue g i = g t j := by
  have hj : (j 1).val < 32 := (j 1).isLt
  have e1 : slabOf i = t := Fin.ext (by show (i 1).val / 32 = t.val; omega)
  have e2 : place i = j := by
    funext a
    match a with
    | ⟨0, _⟩ => exact Fin.ext h0
    | ⟨1, _⟩ => exact Fin.ext (by show (i 1).val % 32 = (j 1).val; omega)
    | ⟨2, _⟩ => exact Fin.ext h2
  unfold glue
  rw [e1, e2]

theorem slab_at {n : ℕ} {α : Type} (h : (Whole n).Idx → α) (t : Fin 8) (j : (Cut n).Idx) (i : (Whole n).Idx)
    (h0 : (i 0).val = (j 0).val) (h1 : (i 1).val = 32 * t.val + (j 1).val) (h2 : (i 2).val = (j 2).val) : h i = slab h t j := by
  refine congrArg h (funext fun a => ?_)
  match a with
  | ⟨0, _⟩ => exact Fin.ext h0
  | ⟨1, _⟩ => exact Fin.ext h1
  | ⟨2, _⟩ => exact Fin.ext h2

/-- An index is in its slab's rows. -/
theorem row_of {n : ℕ} (i : (Whole n).Idx) : 32 * (slabOf i).val ≤ (i 1).val ∧ (i 1).val < 32 * (slabOf i).val + 32 := by
  have : (slabOf i).val = (i 1).val / 32 := rfl
  omega

end Cert.Proof.Slab
-- ==== Proof.TileIdeal.lean ====
/-
  One task of the SparseCore kernel: the loop that clears sixteen rows of the histogram and the loop that enters a
  polygon's edges into them, at any floating-point values.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Defs
public import proofs.«01_k».proof.Proof.Hist
public import proofs.«01_k».proof.Proof.Gen.KernelIdeal
public import proofs.«01_k».proof.Proof.Gen.KernelIdeal.Skeleton

@[expose] public section

set_option maxRecDepth 16384

noncomputable section

namespace Cert.Proof.KernelIdealRun

open Cert.KernelIdeal Cert.KernelIdeal.Gen
open Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

variable [FloatOps F]

section Task

variable (d : Dev nD) (L : grid0.Coords)

/-- The tile's copies of the edge table and of sixteen histogram rows, at given contents. -/
abbrev ePts (f : Buf (Elt F) ((V d (cV L) (jV L)).loc cc0_scratch0)) : sProp 𝕄 := (V d (cV L) (jV L)).loc cc0_scratch0 ↦{fullShare} f
abbrev hPts (f : Buf (Elt F) ((V d (cV L) (jV L)).loc cc0_scratch1)) : sProp 𝕄 := (V d (cV L) (jV L)).loc cc0_scratch1 ↦{fullShare} f

theorem pts_acc (f : Buf (Elt F) ((V d (cV L) (jV L)).loc cc0_scratch1)) :
    (((Memref.whole cc0_scratch1).access (.whole S4096)).loc (V d (cV L) (jV L)) ↦[((Memref.whole cc0_scratch1).access (.whole S4096)).set]{fullShare} f : sProp 𝕄) = hPts d L f := by
  rw [show ((Memref.whole cc0_scratch1).access (.whole S4096)).set = Finset.univ from Memref.set_access_whole _]

/-! ## Clearing the rows -/

theorem off1_eq (t : Fin k0_t1_loop.trips) : k0_off1 t = ![16 * t.val] := by
  revert t; decide +kernel

/-- The first `16 * n` words hold zero. -/
def Clear (n : ℕ) (f : (Vn 4096).Idx → F .f32) : Prop := ∀ j : (Vn 4096).Idx, (j 0).val < 16 * n → f j = Scalar.ofBits .f32 0x00000000#32

theorem clear_step (t : Fin k0_t1_loop.trips) (f : Buf (Elt F) ((V d (cV L) (jV L)).loc cc0_scratch1)) (hf : Clear (F := F) t.val f) :
    Clear (F := F) (t.val + 1) (((Memref.whole cc0_scratch1).access (Rect.unit (s := S4096) (k0_off1 t) S16.size (k0_off1_inb t))).write (Elt F) f (k0_pay2 (F := F)) Finset.univ) := by
  intro j hj
  by_cases h : (j 0).val < 16 * t.val
  · refine Eq.trans (View.write_of_not_mem _ _ _ ?_) (hf j h)
    intro hm
    obtain ⟨x, -, hx⟩ := Finset.mem_map.mp hm
    have h0 := congrArg (fun y : S4096.Idx => (y 0).val) hx
    have h1 : k0_off1 t 0 + 1 * (x 0).val = (j 0).val := h0
    have h2 : k0_off1 t 0 = 16 * t.val := by rw [off1_eq]; rfl
    omega
  · have hx : ((Memref.whole cc0_scratch1).access (Rect.unit (s := S4096) (k0_off1 t) S16.size (k0_off1_inb t))).emb
        (Shape.ofLane (d := ![16]) ⟨(j 0).val - 16 * t.val, by show _ < 16; omega⟩) = j := by
      funext a; rw [Fin.eq_zero a]
      refine Fin.ext ?_
      show k0_off1 t 0 + 1 * ((j 0).val - 16 * t.val) = (j 0).val
      rw [off1_eq]
      show 16 * t.val + 1 * ((j 0).val - 16 * t.val) = (j 0).val
      omega
    rw [← hx, View.write_emb_of_mem _ _ (Finset.mem_univ _)]
    rfl

/-- The clearing loop leaves every word of the sixteen rows at zero. -/
theorem zero_loop (r0 r1 r2 r3 r4 r5 r6 r7 r8 : DmaSems sig S_) (v1 : BitVec 32) (v2 : IVec S16 32) (v3 : FVec F S16 .f32) (v6 v23 : BitVec 32) (v36 : IVec S16 32)
    (f : Buf (Elt F) ((V d (cV L) (jV L)).loc cc0_scratch1)) (Q : BitVec 32 → sProp 𝕄) :
    iprop(hPts d L f ∗ (∀ a, (∃ g, ⌜Clear (F := F) 256 g⌝ ∗ hPts d L g) -∗ Q a))
      ⊢ wp frame (wpE (defs₀ (F := F)) 𝒱₀ (V d (cV L) (jV L)) none) Set.univ
          (Scf.Loop.for k0_t1_loop k0_t1_ok 0#32 (k0_t1_body (F := F) L (Memref.whole main_v13_scv) (Memref.isWhole_whole _) (Memref.whole main_v14_scv) (Memref.isWhole_whole _) (Memref.whole cc0_scratch0) (Memref.isWhole_whole _) (Memref.whole cc0_scratch1) (Memref.isWhole_whole _)
            r0 r1 r2 r3 r4 r5 r6 r7 r8 v1 v2 v3 (k0_pay2 (F := F)) v6 v23 v36)) Q := by
  refine BIBase.Entails.trans ?_ (Scf.wp_for _ _ _ _ _ _ _ _ _ (fun n _ => iprop(∃ g, ⌜Clear (F := F) n g⌝ ∗ hPts d L g)) ?_)
  · iintro ⟨H, HQ⟩
    isplitl [H]
    · iexists f; isplitr
      · ipureintro; intro j hj; exact absurd hj (by omega)
      · iexact H
    · iintro %a H
      iapply HQ
      iexact H
  · intro t acc
    iintro ⟨%g, %hg, H⟩
    simp only [k0_t1_body, Prog.lift, Prog.bind_op, Prog.bind_ret, Prog.pure_eq_ret]
    iapply (wp_load 𝒱₀ (V d (cV L) (jV L)) none Set.univ (m := (Memref.whole cc0_scratch1)) (S := Finset.univ) (Finset.subset_univ _)) $$ H; iintro H
    iapply (wp_store 𝒱₀ (V d (cV L) (jV L)) none Set.univ (m := (Memref.whole cc0_scratch1)) (r := Rect.unit (s := S4096) (k0_off1 t) S16.size (k0_off1_inb t)) (Mk := Finset.univ) (S := Finset.univ) (Finset.subset_univ _)) $$ H
    iintro H
    rw [wp_ret]
    imodintro
    iexists _; isplitr
    · ipureintro; exact clear_step d L t g hg
    · iexact H

/-! ## Entering the edges -/

/-- The sixteen rows from row `16 * rg` on of polygon `p`, after its first `n` edges. -/
def rowsAt (E : ℕ → F .f32) (p rg n : ℕ) : (Vn 4096).Idx → F .f32 :=
  fun j => histAt E p (16 * rg + (j 0).val / 256) ((j 0).val % 256) n

/-- Rows all zero are the rows before the first edge. -/
theorem rowsAt_zero (E : ℕ → F .f32) (p rg : ℕ) (g : (Vn 4096).Idx → F .f32) (hg : Clear (F := F) 256 g) : g = rowsAt E p rg 0 :=
  funext fun j => hg j (j 0).isLt

section Edge

variable (p rg : ℕ) (hp : p < 16) (hrg : rg < 16) (e : ℕ) (he : e < 128)

/-- The word an edge's number lies at, and the table's contents there. -/
theorem base_word (v : IVec S16 32) (k : ℕ) (hk : k < 512) (hp : p < 16) (hv : ∀ x, v x = BitVec.ofNat 32 (p * 512 + k)) (x : S16.Idx) :
    (v x).toNat = p * 512 + k := by
  rw [hv, BitVec.toNat_ofNat]
  exact Nat.mod_eq_of_lt (by omega)

/-- The table's words at one place, read by every lane. -/
theorem gather_word (f : Vec F S8192 .f32) (v : IVec S16 32) (k : ℕ) (hk : k < 512) (hp : p < 16) (hv : ∀ x, v x = BitVec.ofNat 32 (p * 512 + k))
    (h : ∀ a x, ((![v] : Fin 1 → IVec S16 32) a x).toNat < S8192.size a) (x : S16.Idx) :
    loadIdx (F := F) (s := S8192) (t := S16) (e := .f32) f ![v] h x = tot f (p * 512 + k) := by
  show f (idxAt (s := S8192) (![v] : Fin 1 → IVec S16 32) h x) = tot f (p * 512 + k)
  refine congrArg f ?_
  funext a; rw [Fin.eq_zero a]
  refine Fin.ext ?_
  show (v x).toNat = (p * 512 + k) % 8192
  rw [base_word p v k hk hp hv x]
  omega

/-- One edge's scatter takes the rows after `e` edges to the rows after `e + 1`. -/
theorem scatter_step (E : ℕ → F .f32) (v2 v36 : IVec S16 32) (a b c w : Vec F S16 .f32)
    (h2 : ∀ x : S16.Idx, v2 x = BitVec.ofNat 32 (x 0).val) (h36 : ∀ x : S16.Idx, v36 x = BitVec.ofNat 32 (16 * rg + (x 0).val))
    (ha : ∀ x, a x = E (p * 512 + e)) (hb : ∀ x, b x = E (p * 512 + e + 128)) (hc : ∀ x, c x = E (p * 512 + e + 256)) (hw : ∀ x, w x = E (p * 512 + e + 384))
    (hrow : ∀ x : (Vn 16).Idx, (k0_pay10 v2 v36 a b c w x).toNat / 256 = (x 0).val ∧ (k0_pay10 v2 v36 a b c w x).toNat % 256 = (slotOf (k0_pay8 v36 a b c w x)).toNat)
    (h : ∀ a' x, ((![k0_pay10 v2 v36 a b c w] : Fin 1 → IVec S16 32) a' x).toNat < S4096.size a') :
    storeIdx (F := F) (s := S4096) (e := .f32) (d := ![16]) (rowsAt E p rg e) ![k0_pay10 v2 v36 a b c w] (k0_pay1 (F := F)) (k0_pay9 v36 a b c w) true h
      = rowsAt E p rg (e + 1) := by
  funext j
  refine (storeIdx_rows (F := F) (k0_pay10 v2 v36 a b c w) (k0_pay1 (F := F)) (k0_pay9 v36 a b c w) h (rowsAt E p rg e) (fun x => (hrow x).1) j).trans ?_
  have hl : ((laneOf j) 0).val = (j 0).val / 256 := rfl
  have hcol : k0_pay8 v36 a b c w (laneOf j) = col (a (laneOf j)) (b (laneOf j)) (c (laneOf j)) (w (laneOf j)) (FloatOps.sitofp .f32 (v36 (laneOf j))) := rfl
  have hhit : k0_pay9 v36 a b c w (laneOf j) = hit (a (laneOf j)) (b (laneOf j)) (c (laneOf j)) (w (laneOf j)) (FloatOps.sitofp .f32 (v36 (laneOf j))) := rfl
  have hr := hrow (laneOf j)
  rw [hcol] at hr
  rw [hhit]
  have h36' : v36 (laneOf j) = BitVec.ofNat 32 (16 * rg + (j 0).val / 256) := by rw [h36]; rfl
  rw [h36', ha, hb, hc, hw] at hr ⊢
  show _ = bump _ _ _ _ _ _ _
  unfold bump
  refine if_congr (and_congr Iff.rfl ?_) rfl rfl
  have e1 := Nat.div_add_mod (k0_pay10 v2 v36 a b c w (laneOf j)).toNat 256
  have e2 := Nat.div_add_mod (j 0).val 256
  rw [hr.1, hr.2, hl] at e1
  show _ ↔ (slotOf (col _ _ _ _ (FloatOps.sitofp .f32 (BitVec.ofNat 32 (16 * rg + (j 0).val / 256))))).toNat = _
  omega

theorem pay10_word (v2 v36 : IVec S16 32) (a b c w : Vec F S16 .f32) (h2 : ∀ x : S16.Idx, v2 x = BitVec.ofNat 32 (x 0).val) (x : (Vn 16).Idx) :
    (k0_pay10 v2 v36 a b c w x).toNat = (x 0).val * 256 + (slotOf (k0_pay8 v36 a b c w x)).toNat := by
  have hx : (x 0).val < 16 := (x 0).isLt
  have hs := slotOf_lt (k0_pay8 v36 a b c w x)
  have e : k0_pay10 v2 v36 a b c w x = v2 x * 256#32 + slotOf (k0_pay8 v36 a b c w x) := rfl
  have e2 : (256#32).toNat = 256 := rfl
  rw [e, h2, BitVec.toNat_add, BitVec.toNat_mul, BitVec.toNat_ofNat, e2]
  omega

/-- The same with the edge's numbers gathered from the table. -/
theorem scatter_gather (hp : p < 16) (he : e < 128) (f : Vec F S8192 .f32) (v2 v36 v : IVec S16 32)
    (h2 : ∀ x : S16.Idx, v2 x = BitVec.ofNat 32 (x 0).val) (h36 : ∀ x : S16.Idx, v36 x = BitVec.ofNat 32 (16 * rg + (x 0).val))
    (hv : ∀ x : S16.Idx, v x = BitVec.ofNat 32 (p * 512 + e))
    (i1 : ∀ a x, ((![v] : Fin 1 → IVec S16 32) a x).toNat < S8192.size a)
    (i2 : ∀ a x, ((![k0_pay5 v] : Fin 1 → IVec S16 32) a x).toNat < S8192.size a)
    (i3 : ∀ a x, ((![k0_pay6 v] : Fin 1 → IVec S16 32) a x).toNat < S8192.size a)
    (i4 : ∀ a x, ((![k0_pay7 v] : Fin 1 → IVec S16 32) a x).toNat < S8192.size a)
    (i5 : ∀ a' x, ((![k0_pay10 v2 v36 (loadIdx (F := F) (s := S8192) (t := S16) (e := .f32) f ![v] i1) (loadIdx (F := F) (s := S8192) (t := S16) (e := .f32) f ![k0_pay5 v] i2)
        (loadIdx (F := F) (s := S8192) (t := S16) (e := .f32) f ![k0_pay6 v] i3) (loadIdx (F := F) (s := S8192) (t := S16) (e := .f32) f ![k0_pay7 v] i4)] : Fin 1 → IVec S16 32) a' x).toNat < S4096.size a') :
    storeIdx (F := F) (s := S4096) (e := .f32) (d := ![16]) (rowsAt (tot f) p rg e)
      ![k0_pay10 v2 v36 (loadIdx (F := F) (s := S8192) (t := S16) (e := .f32) f ![v] i1) (loadIdx (F := F) (s := S8192) (t := S16) (e := .f32) f ![k0_pay5 v] i2)
        (loadIdx (F := F) (s := S8192) (t := S16) (e := .f32) f ![k0_pay6 v] i3) (loadIdx (F := F) (s := S8192) (t := S16) (e := .f32) f ![k0_pay7 v] i4)]
      (k0_pay1 (F := F)) (k0_pay9 v36 (loadIdx (F := F) (s := S8192) (t := S16) (e := .f32) f ![v] i1) (loadIdx (F := F) (s := S8192) (t := S16) (e := .f32) f ![k0_pay5 v] i2)
        (loadIdx (F := F) (s := S8192) (t := S16) (e := .f32) f ![k0_pay6 v] i3) (loadIdx (F := F) (s := S8192) (t := S16) (e := .f32) f ![k0_pay7 v] i4)) true i5
      = rowsAt (tot f) p rg (e + 1) := by
  have hoff : ∀ (k : ℕ) (hk : k < 512) (x : S16.Idx), v x + BitVec.ofNat 32 k = BitVec.ofNat 32 (p * 512 + (e + k)) := by
    intro k hk x
    rw [hv]
    apply BitVec.eq_of_toNat_eq
    simp only [BitVec.toNat_add, BitVec.toNat_ofNat]
    omega
  have g1 := gather_word p f v e (by omega) hp hv i1
  have g2 : ∀ x, loadIdx (F := F) (s := S8192) (t := S16) (e := .f32) f ![k0_pay5 v] i2 x = tot f (p * 512 + e + 128) :=
    fun x => (gather_word p f (k0_pay5 v) (e + 128) (by omega) hp (hoff 128 (by omega)) i2 x).trans (congrArg (tot f) (by omega))
  have g3 : ∀ x, loadIdx (F := F) (s := S8192) (t := S16) (e := .f32) f ![k0_pay6 v] i3 x = tot f (p * 512 + e + 256) :=
    fun x => (gather_word p f (k0_pay6 v) (e + 256) (by omega) hp (hoff 256 (by omega)) i3 x).trans (congrArg (tot f) (by omega))
  have g4 : ∀ x, loadIdx (F := F) (s := S8192) (t := S16) (e := .f32) f ![k0_pay7 v] i4 x = tot f (p * 512 + e + 384) :=
    fun x => (gather_word p f (k0_pay7 v) (e + 384) (by omega) hp (hoff 384 (by omega)) i4 x).trans (congrArg (tot f) (by omega))
  refine scatter_step p rg e (tot f) v2 v36 _ _ _ _ h2 h36 g1 g2 g3 g4 ?_ i5
  intro x
  rw [pay10_word v2 v36 _ _ _ _ h2 x]
  have hs := slotOf_lt (k0_pay8 v36 (loadIdx (F := F) (s := S8192) (t := S16) (e := .f32) f ![v] i1) (loadIdx (F := F) (s := S8192) (t := S16) (e := .f32) f ![k0_pay5 v] i2)
    (loadIdx (F := F) (s := S8192) (t := S16) (e := .f32) f ![k0_pay6 v] i3) (loadIdx (F := F) (s := S8192) (t := S16) (e := .f32) f ![k0_pay7 v] i4) x)
  have hx : (x 0).val < 16 := (x 0).isLt
  omega

end Edge

/-- The edge loop enters a polygon's 128 edges into sixteen cleared rows. -/
theorem edge_loop (r0 r1 r2 r3 r4 r5 r6 r7 r8 : DmaSems sig S_) (v1 : BitVec 32) (v2 : IVec S16 32) (v4 : FVec F S16 .f32) (v6 : BitVec 32) (v23 : BitVec 32) (v36 : IVec S16 32)
    (p rg : ℕ) (hp : p < 16) (hrg : rg < 16) (h2 : ∀ x : S16.Idx, v2 x = BitVec.ofNat 32 (x 0).val) (h23 : v23 = BitVec.ofNat 32 p)
    (h36 : ∀ x : S16.Idx, v36 x = BitVec.ofNat 32 (16 * rg + (x 0).val))
    (f : Buf (Elt F) ((V d (cV L) (jV L)).loc cc0_scratch0)) (g : Buf (Elt F) ((V d (cV L) (jV L)).loc cc0_scratch1)) (hg : Clear (F := F) 256 g) (Q : BitVec 32 → sProp 𝕄) :
    iprop(ePts d L f ∗ hPts d L g ∗ (∀ a, (ePts d L f ∗ hPts d L (rowsAt (tot f) p rg 128)) -∗ Q a))
      ⊢ wp frame (wpE (defs₀ (F := F)) 𝒱₀ (V d (cV L) (jV L)) none) Set.univ
          (Scf.Loop.for k0_t2_loop k0_t2_ok 0#32 (k0_t2_body (F := F) L (Memref.whole main_v13_scv) (Memref.isWhole_whole _) (Memref.whole main_v14_scv) (Memref.isWhole_whole _) (Memref.whole cc0_scratch0) (Memref.isWhole_whole _) (Memref.whole cc0_scratch1) (Memref.isWhole_whole _)
            r0 r1 r2 r3 r4 r5 r6 r7 r8 v1 v2 (k0_pay1 (F := F)) v4 v6 v23 v36)) Q := by
  refine BIBase.Entails.trans ?_ (Scf.wp_for _ _ _ _ _ _ _ _ _ (fun n _ => iprop(ePts d L f ∗ hPts d L (rowsAt (tot f) p rg n))) ?_)
  · rw [rowsAt_zero (tot f) p rg g hg]
    iintro ⟨HE, H, HQ⟩
    isplitl [HE H]
    · isplitl [HE]; · iexact HE
      iexact H
    · iintro %a H
      iapply HQ
      iexact H
  · intro t acc
    have ht : t.val < 128 := t.isLt
    have hbase : ∀ x : S16.Idx, broadcast S16 (Scalar.addi (Scalar.muli v23 512#32) (Scf.iv 0#32 1#32 t)) x = BitVec.ofNat 32 (p * 512 + t.val) := by
      intro x
      show v23 * 512#32 + (0#32 + BitVec.ofNat 32 t.val * 1#32) = _
      rw [h23]
      apply BitVec.eq_of_toNat_eq
      have e1 : (512#32).toNat = 512 := rfl
      have e2 : (1#32).toNat = 1 := rfl
      have e3 : (0#32).toNat = 0 := rfl
      simp only [BitVec.toNat_add, BitVec.toNat_mul, BitVec.toNat_ofNat, e1, e2, e3]
      omega
    have hoff : ∀ (k : ℕ) (hk : k < 512), ∀ x : S16.Idx, (broadcast S16 (Scalar.addi (Scalar.muli v23 512#32) (Scf.iv 0#32 1#32 t)) x) + BitVec.ofNat 32 k = BitVec.ofNat 32 (p * 512 + (t.val + k)) := by
      intro k hk x
      rw [hbase]
      apply BitVec.eq_of_toNat_eq
      simp only [BitVec.toNat_add, BitVec.toNat_ofNat]
      omega
    have inb : ∀ (v : IVec S16 32) (k : ℕ) (_ : k < 512) (_ : ∀ x, v x = BitVec.ofNat 32 (p * 512 + k)), ∀ a x, ((![v] : Fin 1 → IVec S16 32) a x).toNat < S8192.size a := by
      intro v k hk hv a x
      rw [Fin.eq_zero a]
      show (v x).toNat < 8192
      rw [base_word p v k hk hp hv x]; omega
    have c1 := (show k0_chk1 (broadcast S16 (Scalar.addi (Scalar.muli v23 512#32) (Scf.iv 0#32 1#32 t))) from inb _ t.val (by omega) hbase)
    have c2 := (show k0_chk2 (k0_pay5 (broadcast S16 (Scalar.addi (Scalar.muli v23 512#32) (Scf.iv 0#32 1#32 t)))) from inb _ (t.val + 128) (by omega) (hoff 128 (by omega)))
    have c3 := (show k0_chk3 (k0_pay6 (broadcast S16 (Scalar.addi (Scalar.muli v23 512#32) (Scf.iv 0#32 1#32 t)))) from inb _ (t.val + 256) (by omega) (hoff 256 (by omega)))
    have c4 := (show k0_chk4 (k0_pay7 (broadcast S16 (Scalar.addi (Scalar.muli v23 512#32) (Scf.iv 0#32 1#32 t)))) from inb _ (t.val + 384) (by omega) (hoff 384 (by omega)))
    have c5 : ∀ a b c w : Vec F S16 .f32, k0_chk5 (k0_pay10 v2 v36 a b c w) := by
      intro a b c w a' x
      rw [Fin.eq_zero a']
      have hw := pay10_word v2 v36 a b c w h2 x
      have hs := slotOf_lt (k0_pay8 v36 a b c w x)
      have hx : (x 0).val < 16 := (x 0).isLt
      show (k0_pay10 v2 v36 a b c w x).toNat < 4096
      omega
    iintro ⟨HE, H⟩
    simp only [k0_t2_body, Prog.lift, Prog.bind_op, Prog.bind_ret, Prog.pure_eq_ret]
    iapply (wp_assume 𝒱₀ (V d (cV L) (jV L)) none Set.univ c1)
    iapply (SparseCore.wp_vectorLoadIdx 𝒱₀ (V d (cV L) (jV L)) none Set.univ (base := (Memref.whole cc0_scratch0)) (S := Finset.univ) (q := fullShare) (Finset.subset_univ _)) $$ HE; iintro HE
    iapply (wp_assume 𝒱₀ (V d (cV L) (jV L)) none Set.univ c2)
    iapply (SparseCore.wp_vectorLoadIdx 𝒱₀ (V d (cV L) (jV L)) none Set.univ (base := (Memref.whole cc0_scratch0)) (S := Finset.univ) (q := fullShare) (Finset.subset_univ _)) $$ HE; iintro HE
    iapply (wp_assume 𝒱₀ (V d (cV L) (jV L)) none Set.univ c3)
    iapply (SparseCore.wp_vectorLoadIdx 𝒱₀ (V d (cV L) (jV L)) none Set.univ (base := (Memref.whole cc0_scratch0)) (S := Finset.univ) (q := fullShare) (Finset.subset_univ _)) $$ HE; iintro HE
    iapply (wp_assume 𝒱₀ (V d (cV L) (jV L)) none Set.univ c4)
    iapply (SparseCore.wp_vectorLoadIdx 𝒱₀ (V d (cV L) (jV L)) none Set.univ (base := (Memref.whole cc0_scratch0)) (S := Finset.univ) (q := fullShare) (Finset.subset_univ _)) $$ HE; iintro HE
    iapply (wp_assume 𝒱₀ (V d (cV L) (jV L)) none Set.univ (c5 _ _ _ _))
    ihave H' := (Entails.of_eq (pts_acc d L _).symm) $$ H
    iapply (SparseCore.wp_vectorStoreIdx 𝒱₀ (V d (cV L) (jV L)) none Set.univ (base := (Memref.whole cc0_scratch1))) $$ H'; iintro H'
    ihave H := (Entails.of_eq (pts_acc d L _)) $$ H'
    rw [wp_ret]
    imodintro
    isplitl [HE]; · iexact HE
    rw [Memref.write_access_whole_univ, Memref.read_access_whole, Memref.read_access_whole]
    rw [scatter_gather p rg t.val hp ht f v2 v36 _ h2 h36 hbase]
    iexact H

/-! ## The copies -/

/-- Task `k`'s words of the histogram in HBM, as the body slices them, -/
abbrev outRect (k : Fin 8) : Rect S1048576 := Rect.unit (s := S1048576) (k0_off2 L (BitVec.ofNat 32 k.val)) S4096.size (k0_off2_inb L k)
abbrev outM (k : Fin 8) : Memref sig .scVector .hbm S4096 .f32 := (Memref.whole main_v14_scv).slice (outRect L k) (fun _ => rfl)
/-- and held at given contents of the whole. -/
abbrev outPts (k : Fin 8) (f : Buf (Elt F) ((V d (cV L) (jV L)).loc main_v14_scv)) : sProp 𝕄 :=
  (outM L k).view.loc (V d (cV L) (jV L)) ↦[(outM L k).view.set]{fullShare} f

/-- The tile's buffers in the body's spelling. -/
theorem pts_sH (f : Buf (Elt F) ((V d (cV L) (jV L)).loc cc0_scratch1)) :
    ((Memref.whole cc0_scratch1).view.loc (V d (cV L) (jV L)) ↦{fullShare} f : sProp 𝕄) = hPts d L f := rfl
theorem pts_sE (f : Buf (Elt F) ((V d (cV L) (jV L)).loc cc0_scratch0)) :
    ((Memref.whole cc0_scratch0).view.loc (V d (cV L) (jV L)) ↦{fullShare} f : sProp 𝕄) = ePts d L f := rfl

/-- What the copy leaves in task `k`'s words. -/
theorem out_congr (k : Fin 8) (f0 h : Buf (Elt F) ((V d (cV L) (jV L)).loc main_v14_scv))
    (w : S4096.Idx → Elt F .f32) (hh : ∀ x : S4096.Idx, h ((outM L k).view.emb x) = w x) :
    ((outM L k).view.loc (V d (cV L) (jV L)) ↦[(outM L k).view.set]{fullShare} (outM L k).view.writes (Elt F) f0 [⟨Rect.whole S4096, w⟩] : sProp 𝕄)
      = outPts d L k h := by
  refine pointsTo_congr fun i hi => ?_
  obtain ⟨x, -, hx⟩ := Finset.mem_map.mp hi
  have e := View.read_writes_cons_hit (Val := Elt F) (outM L k).view f0 (Rect.whole S4096) w [] x x (Rect.emb_whole_apply S4096 x)
  rw [View.read_apply, cast_eq] at e
  rw [← hx]
  refine Eq.trans e ?_
  rw [hh x]

/-- The copy of the sixteen rows out to HBM, and its wait. -/
theorem copy_out (k : Fin 8) (sem : DmaSems sig S_) (g : Buf (Elt F) ((V d (cV L) (jV L)).loc cc0_scratch1)) (f0 h : Buf (Elt F) ((V d (cV L) (jV L)).loc main_v14_scv))
    (hh : ∀ x : S4096.Idx, h ((outM L k).view.emb x) = g x) (O : CellTallies nD τ sig (HIx 1)) (W : Waits sig (HIx 1)) {α : Type} (kk : PUnit → Prog (TpuEff nD τ sig (Elt F) Λ₀ (.scVector (cV L) (jV L))) α) (Q : α → sProp 𝕄) :
    iprop(hPts d L g ∗ outPts d L k f0 ∗ semVal ((V d (cV L) (jV L), .dma sem.sem) : GSem nD τ sig) 0 ∗ Transfers.MayWaits (V d (cV L) (jV L)) (default : HIx 1) O
        ∗ owes (V d (cV L) (jV L)) O W
        ∗ (∀ W', (hPts d L g ∗ outPts d L k h
            ∗ semVal ((V d (cV L) (jV L), .dma sem.sem) : GSem nD τ sig) 0 ∗ owes (V d (cV L) (jV L)) O W') -∗ wp frame (wpE (defs₀ (F := F)) 𝒱₀ (V d (cV L) (jV L)) none) Set.univ (kk ⟨⟩) Q))
      ⊢ wp frame (wpE (defs₀ (F := F)) 𝒱₀ (V d (cV L) (jV L)) none) Set.univ
          (.op (.enqueueDma (Memref.whole cc0_scratch1) (.here (outM L k)) (.dma sem.sem) (Memref.isWhole_whole _).wordExact (View.wordExact_bits rfl) ⟨Or.inl rfl, trivial⟩)
            fun _ => .op (.waitDma2 sem.sem (Memref.whole cc0_scratch1) (outM L k) (Memref.isWhole_whole _).wordExact (View.wordExact_bits rfl)) kk) Q := by
  iintro ⟨Hs, Ho, Hsem, Hmw, HO, Hk⟩
  ihave Hs' := (Entails.of_eq (pts_sH (F := F) d L _).symm) $$ Hs
  sl_exec (disch := exact View.amount_pos _ _ (show 0 < S4096.numel by decide))
  ihave Ho' := (Entails.of_eq (out_congr d L k f0 h (copy_out.sl.dma0 d L g) hh)) $$ Ho
  ihave Hs := (Entails.of_eq (pts_sH (F := F) d L _)) $$ Hs'
  iapply Hk
  isplitl [Hs]; · iexact Hs
  isplitl [Ho']; · iexact Ho'
  isplitl [Hsem]; · iexact Hsem
  iexact HO

/-! ## The task's words -/

/-- The task's number among the 256. -/
def tk (k : Fin 8) : ℕ := ((L 1).val * 2 + (L 0).val) * 8 + k.val
theorem tk_lt (k : Fin 8) : tk L k < 256 := by
  have h0 : (L 0).val < 2 := (L 0).isLt
  have h1 : (L 1).val < 16 := (L 1).isLt
  have := k.isLt
  unfold tk; omega
theorem tk_word (k : Fin 8) : taskW (L 0).val (L 1).val (BitVec.ofNat 32 k.val) = BitVec.ofNat 32 (tk L k) := taskW_eq (L 0) (L 1) k
theorem tk_quo (k : Fin 8) : quo16 (taskW (L 0).val (L 1).val (BitVec.ofNat 32 k.val)) = BitVec.ofNat 32 (tk L k / 16) := by
  rw [tk_word]; exact quo16_eq ⟨tk L k, tk_lt L k⟩
theorem tk_rem (k : Fin 8) : rem16 (taskW (L 0).val (L 1).val (BitVec.ofNat 32 k.val)) = BitVec.ofNat 32 (tk L k % 16) := by
  rw [tk_word]; exact rem16_eq ⟨tk L k, tk_lt L k⟩

/-- The lanes' numbers, and the rows of the task. -/
abbrev lanes : IVec S16 32 := iota .scVector S16 32 [0] iota_S16_d0_w32_scVector
abbrev rowsV (k : Fin 8) : IVec S16 32 := addi lanes (broadcast S16 (Scalar.muli (rem16 (taskW (L 0).val (L 1).val (BitVec.ofNat 32 k.val))) 16#32))
theorem lanes_eq (x : S16.Idx) : lanes x = BitVec.ofNat 32 (x 0).val := by
  show BitVec.ofNat 32 _ = _
  congr 1
  show 0 * _ + (x 0).val = _
  omega
theorem rowsV_eq (k : Fin 8) (x : S16.Idx) : rowsV L k x = BitVec.ofNat 32 (16 * (tk L k % 16) + (x 0).val) := by
  show lanes x + rem16 (taskW (L 0).val (L 1).val (BitVec.ofNat 32 k.val)) * 16#32 = _
  rw [lanes_eq, tk_rem]
  apply BitVec.eq_of_toNat_eq
  have e2 : (16#32).toNat = 16 := rfl
  simp only [BitVec.toNat_add, BitVec.toNat_mul, BitVec.toNat_ofNat, e2]
  omega

/-- The first task's two loop bodies, at any words: every task's are these. -/
abbrev zB := k0_t1_body (F := F) L (Memref.whole main_v13_scv) (Memref.isWhole_whole _) (Memref.whole main_v14_scv) (Memref.isWhole_whole _) (Memref.whole cc0_scratch0) (Memref.isWhole_whole _) (Memref.whole cc0_scratch1) (Memref.isWhole_whole _)
  cc0_scoped0 cc0_scoped1 cc0_scoped2 cc0_scoped3 cc0_scoped4 cc0_scoped5 cc0_scoped6 cc0_scoped7 cc0_scoped8 0#32 lanes (k0_pay1 (F := F)) (k0_pay2 (F := F)) 0#32 0#32 lanes
abbrev eB (k : Fin 8) := k0_t2_body (F := F) L (Memref.whole main_v13_scv) (Memref.isWhole_whole _) (Memref.whole main_v14_scv) (Memref.isWhole_whole _) (Memref.whole cc0_scratch0) (Memref.isWhole_whole _) (Memref.whole cc0_scratch1) (Memref.isWhole_whole _)
  cc0_scoped0 cc0_scoped1 cc0_scoped2 cc0_scoped3 cc0_scoped4 cc0_scoped5 cc0_scoped6 cc0_scoped7 cc0_scoped8 0#32 lanes (k0_pay1 (F := F)) (k0_pay2 (F := F)) 0#32
  (quo16 (taskW (L 0).val (L 1).val (BitVec.ofNat 32 k.val))) (rowsV L k)

/-- The histogram in HBM, from the contents of the edge table. -/
abbrev histF (f : (Vn 8192).Idx → F .f32) : S1048576.Idx → F .f32 := fun w => histWord (tot f) (w 0).val

theorem off2_eq (k : Fin 8) : k0_off2 L (BitVec.ofNat 32 k.val) 0 = tk L k * 4096 := by
  show (taskW (L 0).val (L 1).val (BitVec.ofNat 32 k.val) * 4096#32).toNat = _
  have ht := tk_lt L k
  have e2 : (4096#32).toNat = 4096 := rfl
  rw [tk_word, BitVec.toNat_mul, BitVec.toNat_ofNat, e2]
  omega

theorem hist_rows (f : (Vn 8192).Idx → F .f32) (k : Fin 8) (x : S4096.Idx) :
    histF f ((outM L k).view.emb x) = rowsAt (tot f) (tk L k / 16) (tk L k % 16) 128 x := by
  have e : (((outM L k).view.emb x) 0).val = tk L k * 4096 + (x 0).val := by
    show k0_off2 L (BitVec.ofNat 32 k.val) 0 + 1 * (x 0).val = _
    rw [off2_eq]; omega
  have hx : (x 0).val < 4096 := (x 0).isLt
  show histWord (tot f) (((outM L k).view.emb x) 0).val = histAt _ _ _ _ _
  rw [e]
  unfold histWord
  rw [show (tk L k * 4096 + (x 0).val) / 65536 = tk L k / 16 by omega,
    show (tk L k * 4096 + (x 0).val) / 256 % 256 = 16 * (tk L k % 16) + (x 0).val / 256 by omega,
    show (tk L k * 4096 + (x 0).val) % 256 = (x 0).val % 256 by omega]

theorem zero_at {B : Fin k0_t1_loop.trips → BitVec 32 → Prog (TpuEff nD τ sig (Elt F) Λ₀ (.scVector (cV L) (jV L))) (BitVec 32)} (hB : B = zB (F := F) L)
    (f : Buf (Elt F) ((V d (cV L) (jV L)).loc cc0_scratch1)) (Q : BitVec 32 → sProp 𝕄) :
    hPts d L f ⊢ iprop((∀ a g, ⌜Clear (F := F) 256 g⌝ -∗ hPts d L g -∗ Q a)
      -∗ wp frame (wpE (defs₀ (F := F)) 𝒱₀ (V d (cV L) (jV L)) none) Set.univ (Scf.Loop.for k0_t1_loop k0_t1_ok 0#32 B) Q) := by
  subst hB
  iintro H HQ
  iapply (zero_loop d L)
  isplitl [H]; · iexact H
  iintro %a ⟨%g, %hg, H⟩
  iapply HQ $$ %a %g %hg H

theorem edge_at (k : Fin 8) {B : Fin k0_t2_loop.trips → BitVec 32 → Prog (TpuEff nD τ sig (Elt F) Λ₀ (.scVector (cV L) (jV L))) (BitVec 32)} (hB : B = eB (F := F) L k)
    (f : Buf (Elt F) ((V d (cV L) (jV L)).loc cc0_scratch0)) (g : Buf (Elt F) ((V d (cV L) (jV L)).loc cc0_scratch1)) (hg : Clear (F := F) 256 g) (Q : BitVec 32 → sProp 𝕄) :
    iprop(ePts d L f ∗ hPts d L g) ⊢ iprop((∀ a, ePts d L f -∗ hPts d L (rowsAt (tot f) (tk L k / 16) (tk L k % 16) 128) -∗ Q a)
      -∗ wp frame (wpE (defs₀ (F := F)) 𝒱₀ (V d (cV L) (jV L)) none) Set.univ (Scf.Loop.for k0_t2_loop k0_t2_ok 0#32 B) Q) := by
  subst hB
  have ht := tk_lt L k
  iintro ⟨HE, H⟩ HQ
  iapply (edge_loop d L _ _ _ _ _ _ _ _ _ _ _ _ _ _ _ (tk L k / 16) (tk L k % 16) (by omega) (by omega) lanes_eq (tk_quo L k) (rowsV_eq L k) f g hg)
  isplitl [HE]; · iexact HE
  isplitl [H]; · iexact H
  iintro %a ⟨HE, H⟩
  iapply HQ $$ %a HE H

end Task

end Cert.Proof.KernelIdealRun

end
-- ==== Proof.BodyIdeal.lean ====
/-
  A whole task of the SparseCore kernel: a tile fetches the edge table, and eight times clears its sixteen rows, enters a
  polygon's edges and sends the rows out.
-/
module

public import proofs.«01_k».proof.Proof.TileIdeal

@[expose] public section

set_option maxRecDepth 65536

noncomputable section

namespace Cert.Proof.KernelIdealRun

open Cert.KernelIdeal Cert.KernelIdeal.Gen
open Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Task

variable (d : Dev nD) (L : grid0.Coords)

/-- A share of the edge table in HBM. -/
abbrev gPts (q : PosShare TreeShare) (f : (Vn 8192).Idx → F .f32) : sProp 𝕄 := (V d (cV L) (jV L)).loc main_v13_scv ↦{q} (f : Buf (Elt F) ((V d (cV L) (jV L)).loc main_v13_scv))

/-- The tile's copy of the table, after the fetch. -/
theorem fetched (fe : Buf (Elt F) ((V d (cV L) (jV L)).loc cc0_scratch0)) (w : S8192.Idx → Elt F .f32) (f : (Vn 8192).Idx → F .f32) (hw : ∀ x, w x = f x) :
    ((Memref.whole cc0_scratch0).view.loc (V d (cV L) (jV L)) ↦{fullShare} View.write (Elt F) (Memref.whole cc0_scratch0).view fe w Finset.univ : sProp 𝕄) = ePts d L f := by
  refine pointsTo_congr fun i _ => ?_
  have e := View.write_emb_of_mem (Val := Elt F) (v := (Memref.whole cc0_scratch0).view) fe w (M := Finset.univ) (x := i) (Finset.mem_univ _)
  rw [cast_eq] at e
  refine Eq.trans e ?_
  exact hw i

/-- The fetch of the edge table, and its wait. -/
theorem copy_in (q : PosShare TreeShare) (f : (Vn 8192).Idx → F .f32) (fe : Buf (Elt F) ((V d (cV L) (jV L)).loc cc0_scratch0))
    (O : CellTallies nD τ sig (HIx 1)) (W : Waits sig (HIx 1)) {α : Type} (kk : PUnit → Prog (TpuEff nD τ sig (Elt F) Λ₀ (.scVector (cV L) (jV L))) α) (Q : α → sProp 𝕄) :
    iprop(gPts d L q f ∗ ePts d L fe ∗ semVal ((V d (cV L) (jV L), .dma cc0_scoped0.sem) : GSem nD τ sig) 0 ∗ Transfers.MayWaits (V d (cV L) (jV L)) (default : HIx 1) O
        ∗ owes (V d (cV L) (jV L)) O W
        ∗ (∀ W', (gPts d L q f ∗ ePts d L f
            ∗ semVal ((V d (cV L) (jV L), .dma cc0_scoped0.sem) : GSem nD τ sig) 0 ∗ owes (V d (cV L) (jV L)) O W') -∗ wp frame (wpE (defs₀ (F := F)) 𝒱₀ (V d (cV L) (jV L)) none) Set.univ (kk ⟨⟩) Q))
      ⊢ wp frame (wpE (defs₀ (F := F)) 𝒱₀ (V d (cV L) (jV L)) none) Set.univ
          (.op (.enqueueDma (Memref.whole main_v13_scv) (.here (Memref.whole cc0_scratch0)) (.dma cc0_scoped0.sem) (Memref.isWhole_whole _).wordExact (Memref.isWhole_whole _).wordExact ⟨Or.inl rfl, trivial⟩)
            fun _ => .op (.waitDma2 cc0_scoped0.sem (Memref.whole main_v13_scv) (Memref.whole cc0_scratch0) (Memref.isWhole_whole _).wordExact (Memref.isWhole_whole _).wordExact) kk) Q := by
  iintro ⟨Hg, He, Hsem, Hmw, HO, Hk⟩
  ihave He' := (Entails.of_eq (pts_sE (F := F) d L _).symm) $$ He
  ihave Hg' := (Entails.of_eq (show gPts d L q f = ((Memref.whole main_v13_scv).view.loc (V d (cV L) (jV L)) ↦{q} (f : Buf (Elt F) ((V d (cV L) (jV L)).loc main_v13_scv)) : sProp 𝕄) from rfl)) $$ Hg
  sl_exec (disch := exact View.amount_pos _ _ (show 0 < S8192.numel by decide))
  ihave He := (Entails.of_eq (fetched d L fe (copy_in.sl.dma0 f) f (fun _ => rfl))) $$ He'
  iapply Hk
  isplitl [Hg']; · iexact Hg'
  isplitl [He]; · iexact He
  isplitl [Hsem]; · iexact Hsem
  iexact HO

/-- The two loops of task `k`. -/
theorem loops_at (k : Fin 8) {B₁ : Fin k0_t1_loop.trips → BitVec 32 → Prog (TpuEff nD τ sig (Elt F) Λ₀ (.scVector (cV L) (jV L))) (BitVec 32)} (h1 : B₁ = zB (F := F) L)
    {B₂ : Fin k0_t2_loop.trips → BitVec 32 → Prog (TpuEff nD τ sig (Elt F) Λ₀ (.scVector (cV L) (jV L))) (BitVec 32)} (h2 : B₂ = eB (F := F) L k)
    (f : (Vn 8192).Idx → F .f32) (g : Buf (Elt F) ((V d (cV L) (jV L)).loc cc0_scratch1))
    {α : Type} (kk : Prog (TpuEff nD τ sig (Elt F) Λ₀ (.scVector (cV L) (jV L))) α) (Q : α → sProp 𝕄) :
    iprop(ePts d L f ∗ hPts d L g ∗ ((ePts d L f ∗ hPts d L (rowsAt (tot f) (tk L k / 16) (tk L k % 16) 128)) -∗ wp frame (wpE (defs₀ (F := F)) 𝒱₀ (V d (cV L) (jV L)) none) Set.univ kk Q))
      ⊢ wp frame (wpE (defs₀ (F := F)) 𝒱₀ (V d (cV L) (jV L)) none) Set.univ
        (Scf.Loop.for k0_t1_loop k0_t1_ok 0#32 B₁ >>= fun _ => Scf.Loop.for k0_t2_loop k0_t2_ok 0#32 B₂ >>= fun _ => kk) Q := by
  rw [wp_bind]
  iintro ⟨HE, HH, Hk⟩
  iapply (zero_at d L h1 g _) $$ HH
  iintro %a %g' %hg' HH
  rw [wp_bind]
  iapply (edge_at d L k h2 f g' hg' _) $$ [HE HH]
  · isplitl [HE]; · iexact HE
    iexact HH
  iintro %b HE HH
  iapply Hk
  isplitl [HE]; · iexact HE
  iexact HH

/-- The nine cells the copies use, at zero. -/
abbrev semPts : sProp 𝕄 := iprop(semVal ((V d (cV L) (jV L), .dma cc0_scoped0.sem) : GSem nD τ sig) 0 ∗ semVal ((V d (cV L) (jV L), .dma cc0_scoped1.sem) : GSem nD τ sig) 0 ∗ semVal ((V d (cV L) (jV L), .dma cc0_scoped2.sem) : GSem nD τ sig) 0 ∗ semVal ((V d (cV L) (jV L), .dma cc0_scoped3.sem) : GSem nD τ sig) 0 ∗ semVal ((V d (cV L) (jV L), .dma cc0_scoped4.sem) : GSem nD τ sig) 0 ∗ semVal ((V d (cV L) (jV L), .dma cc0_scoped5.sem) : GSem nD τ sig) 0 ∗ semVal ((V d (cV L) (jV L), .dma cc0_scoped6.sem) : GSem nD τ sig) 0 ∗ semVal ((V d (cV L) (jV L), .dma cc0_scoped7.sem) : GSem nD τ sig) 0 ∗ semVal ((V d (cV L) (jV L), .dma cc0_scoped8.sem) : GSem nD τ sig) 0)
/-- The task's eight pieces of the histogram, at given contents. -/
abbrev outsPts (h : Buf (Elt F) ((V d (cV L) (jV L)).loc main_v14_scv)) : sProp 𝕄 := iprop(outPts d L 0 h ∗ outPts d L 1 h ∗ outPts d L 2 h ∗ outPts d L 3 h ∗ outPts d L 4 h ∗ outPts d L 5 h ∗ outPts d L 6 h ∗ outPts d L 7 h)

set_option maxHeartbeats 4000000 in
/-- The whole task: the table is fetched, and every piece of the histogram comes out at the count of the table's edges. -/
theorem task_run (q : PosShare TreeShare) (f : (Vn 8192).Idx → F .f32) (fe : Buf (Elt F) ((V d (cV L) (jV L)).loc cc0_scratch0)) (g : Buf (Elt F) ((V d (cV L) (jV L)).loc cc0_scratch1))
    (f0 : Buf (Elt F) ((V d (cV L) (jV L)).loc main_v14_scv)) (O : CellTallies nD τ sig (HIx 1)) (W : Waits sig (HIx 1)) (Q : PUnit → sProp 𝕄) :
    iprop(gPts d L q f ∗ ePts d L fe ∗ hPts d L g ∗ outsPts d L f0 ∗ semPts d L ∗ Transfers.MayWaits (V d (cV L) (jV L)) (default : HIx 1) O ∗ owes (V d (cV L) (jV L)) O W
        ∗ (∀ W' g', (gPts d L q f ∗ ePts d L f ∗ hPts d L g' ∗ outsPts d L (histF f) ∗ semPts d L ∗ owes (V d (cV L) (jV L)) O W') -∗ Q ⟨⟩))
      ⊢ wp frame (wpE (defs₀ (F := F)) 𝒱₀ (V d (cV L) (jV L)) none) Set.univ (cc0__sc_hist_body (F := F) L (Memref.whole main_v13_scv) (Memref.isWhole_whole _) (Memref.whole main_v14_scv) (Memref.isWhole_whole _) (Memref.whole cc0_scratch0) (Memref.isWhole_whole _) (Memref.whole cc0_scratch1) (Memref.isWhole_whole _) cc0_scoped0 cc0_scoped1 cc0_scoped2 cc0_scoped3 cc0_scoped4 cc0_scoped5 cc0_scoped6 cc0_scoped7 cc0_scoped8) Q := by
  iintro ⟨Hg, HE, HH, ⟨Ho0, Ho1, Ho2, Ho3, Ho4, Ho5, Ho6, Ho7⟩, ⟨Hs0, Hs1, Hs2, Hs3, Hs4, Hs5, Hs6, Hs7, Hs8⟩, #Hmw, HO, HQ⟩
  rw [cc0__sc_hist_body_eq_skeleton]
  unfold cc0__sc_hist_body_skel
  -- the fetch
  rw [wp_bind, k0_part1_eq_skeleton]
  simp only [k0_part1_skel, Prog.lift, Prog.bind_op, Prog.bind_ret, Prog.pure_eq_ret]
  iapply (copy_in d L q f fe O W _ _)
  isplitl [Hg]; · iexact Hg
  isplitl [HE]; · iexact HE
  isplitl [Hs0]; · iexact Hs0
  isplitr; · iexact Hmw
  isplitl [HO]; · iexact HO
  iintro %Wf ⟨Hg, HE, Hs0, HO⟩
  rw [wp_ret]; imodintro
  -- task 0
  rw [wp_bind, k0_part2_eq_skeleton]
  simp only [k0_part2_skel, Prog.lift, Prog.bind_op, Prog.bind_ret, Prog.pure_eq_ret]
  iapply (loops_at d L 0 rfl rfl f _ _ _)
  isplitl [HE]; · iexact HE
  isplitl [HH]; · iexact HH
  iintro ⟨HE, HH⟩
  iapply (copy_out d L 0 cc0_scoped1 _ f0 (histF f) (hist_rows L f 0) O _ _ _)
  isplitl [HH]; · iexact HH
  isplitl [Ho0]; · iexact Ho0
  isplitl [Hs1]; · iexact Hs1
  isplitr; · iexact Hmw
  isplitl [HO]; · iexact HO
  iintro %W0 ⟨HH, Ho0, Hs1, HO⟩
  rw [wp_ret]; imodintro
  -- task 1
  rw [wp_bind, k0_part3_eq_skeleton]
  simp only [k0_part3_skel, Prog.lift, Prog.bind_op, Prog.bind_ret, Prog.pure_eq_ret]
  iapply (loops_at d L 1 rfl rfl f _ _ _)
  isplitl [HE]; · iexact HE
  isplitl [HH]; · iexact HH
  iintro ⟨HE, HH⟩
  iapply (copy_out d L 1 cc0_scoped2 _ f0 (histF f) (hist_rows L f 1) O _ _ _)
  isplitl [HH]; · iexact HH
  isplitl [Ho1]; · iexact Ho1
  isplitl [Hs2]; · iexact Hs2
  isplitr; · iexact Hmw
  isplitl [HO]; · iexact HO
  iintro %W1 ⟨HH, Ho1, Hs2, HO⟩
  rw [wp_ret]; imodintro
  -- task 2
  rw [wp_bind, k0_part4_eq_skeleton]
  simp only [k0_part4_skel, Prog.lift, Prog.bind_op, Prog.bind_ret, Prog.pure_eq_ret]
  iapply (loops_at d L 2 rfl rfl f _ _ _)
  isplitl [HE]; · iexact HE
  isplitl [HH]; · iexact HH
  iintro ⟨HE, HH⟩
  iapply (copy_out d L 2 cc0_scoped3 _ f0 (histF f) (hist_rows L f 2) O _ _ _)
  isplitl [HH]; · iexact HH
  isplitl [Ho2]; · iexact Ho2
  isplitl [Hs3]; · iexact Hs3
  isplitr; · iexact Hmw
  isplitl [HO]; · iexact HO
  iintro %W2 ⟨HH, Ho2, Hs3, HO⟩
  rw [wp_ret]; imodintro
  -- task 3
  rw [wp_bind, k0_part5_eq_skeleton]
  simp only [k0_part5_skel, Prog.lift, Prog.bind_op, Prog.bind_ret, Prog.pure_eq_ret]
  iapply (loops_at d L 3 rfl rfl f _ _ _)
  isplitl [HE]; · iexact HE
  isplitl [HH]; · iexact HH
  iintro ⟨HE, HH⟩
  rw [wp_ret]; imodintro
  rw [wp_bind, k0_part6_eq_skeleton]
  simp only [k0_part6_skel, Prog.lift, Prog.bind_op, Prog.bind_ret, Prog.pure_eq_ret]
  iapply (copy_out d L 3 cc0_scoped4 _ f0 (histF f) (hist_rows L f 3) O _ _ _)
  isplitl [HH]; · iexact HH
  isplitl [Ho3]; · iexact Ho3
  isplitl [Hs4]; · iexact Hs4
  isplitr; · iexact Hmw
  isplitl [HO]; · iexact HO
  iintro %W3 ⟨HH, Ho3, Hs4, HO⟩
  rw [wp_ret]; imodintro
  -- task 4
  rw [wp_bind, k0_part7_eq_skeleton]
  simp only [k0_part7_skel, Prog.lift, Prog.bind_op, Prog.bind_ret, Prog.pure_eq_ret]
  iapply (loops_at d L 4 rfl rfl f _ _ _)
  isplitl [HE]; · iexact HE
  isplitl [HH]; · iexact HH
  iintro ⟨HE, HH⟩
  iapply (copy_out d L 4 cc0_scoped5 _ f0 (histF f) (hist_rows L f 4) O _ _ _)
  isplitl [HH]; · iexact HH
  isplitl [Ho4]; · iexact Ho4
  isplitl [Hs5]; · iexact Hs5
  isplitr; · iexact Hmw
  isplitl [HO]; · iexact HO
  iintro %W4 ⟨HH, Ho4, Hs5, HO⟩
  rw [wp_ret]; imodintro
  -- task 5
  rw [wp_bind, k0_part8_eq_skeleton]
  simp only [k0_part8_skel, Prog.lift, Prog.bind_op, Prog.bind_ret, Prog.pure_eq_ret]
  iapply (loops_at d L 5 rfl rfl f _ _ _)
  isplitl [HE]; · iexact HE
  isplitl [HH]; · iexact HH
  iintro ⟨HE, HH⟩
  iapply (copy_out d L 5 cc0_scoped6 _ f0 (histF f) (hist_rows L f 5) O _ _ _)
  isplitl [HH]; · iexact HH
  isplitl [Ho5]; · iexact Ho5
  isplitl [Hs6]; · iexact Hs6
  isplitr; · iexact Hmw
  isplitl [HO]; · iexact HO
  iintro %W5 ⟨HH, Ho5, Hs6, HO⟩
  rw [wp_ret]; imodintro
  -- task 6
  rw [wp_bind, k0_part9_eq_skeleton]
  simp only [k0_part9_skel, Prog.lift, Prog.bind_op, Prog.bind_ret, Prog.pure_eq_ret]
  iapply (loops_at d L 6 rfl rfl f _ _ _)
  isplitl [HE]; · iexact HE
  isplitl [HH]; · iexact HH
  iintro ⟨HE, HH⟩
  iapply (copy_out d L 6 cc0_scoped7 _ f0 (histF f) (hist_rows L f 6) O _ _ _)
  isplitl [HH]; · iexact HH
  isplitl [Ho6]; · iexact Ho6
  isplitl [Hs7]; · iexact Hs7
  isplitr; · iexact Hmw
  isplitl [HO]; · iexact HO
  iintro %W6 ⟨HH, Ho6, Hs7, HO⟩
  rw [wp_ret]; imodintro
  -- task 7
  rw [wp_bind, k0_part10_eq_skeleton]
  simp only [k0_part10_skel, Prog.lift, Prog.bind_op, Prog.bind_ret, Prog.pure_eq_ret]
  iapply (loops_at d L 7 rfl rfl f _ _ _)
  isplitl [HE]; · iexact HE
  isplitl [HH]; · iexact HH
  iintro ⟨HE, HH⟩
  rw [wp_ret]; imodintro
  iapply (copy_out d L 7 cc0_scoped8 _ f0 (histF f) (hist_rows L f 7) O _ _ _)
  isplitl [HH]; · iexact HH
  isplitl [Ho7]; · iexact Ho7
  isplitl [Hs8]; · iexact Hs8
  isplitr; · iexact Hmw
  isplitl [HO]; · iexact HO
  iintro %W7 ⟨HH, Ho7, Hs8, HO⟩
  rw [wp_ret]; imodintro
  iapply HQ $$ %W7 %_
  isplitl [Hg]; · iexact Hg
  isplitl [HE]; · iexact HE
  isplitl [HH]; · iexact HH
  isplitl [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hs0 Hs1 Hs2 Hs3 Hs4 Hs5 Hs6 Hs7 Hs8]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  iexact HO

end Task

end Cert.Proof.KernelIdealRun

end
-- ==== Proof.SplitIdeal.lean ====
/-
  The SparseCore call as its launch sees it: how the edge table and the histogram are dealt to the tiles and come back, and
  what a tile owes the call.
-/
module

public import proofs.«01_k».proof.Proof.BodyIdeal

@[expose] public section

set_option maxRecDepth 16384

noncomputable section

namespace Cert.Proof.KernelIdealRun

open Cert.KernelIdeal Cert.KernelIdeal.Gen
open Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The two arrays and their pieces -/

/-- The edge table and the histogram in HBM, as locations of device `d`. -/
abbrev gLoc (d : Dev nD) : Loc nD τ sig := (SparseCore.T d).loc main_v13
abbrev hLoc (d : Dev nD) : Loc nD τ sig := (SparseCore.T d).loc main_v14

/-- The words of core `c`, of its tile `i`, and of that tile's task `k`. -/
def coreSet (c : Fin 2) : Finset S1048576.Idx := Finset.univ.filter fun w => (w 0).val / 32768 % 2 = c.val
def tileSet (c : Fin 2) (i : Fin 16) : Finset S1048576.Idx := Finset.univ.filter fun w => (w 0).val / 32768 = i.val * 2 + c.val
def pieceSet (c : Fin 2) (i : Fin 16) (k : Fin 8) : Finset S1048576.Idx := Finset.univ.filter fun w => (w 0).val / 4096 = (i.val * 2 + c.val) * 8 + k.val

theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun w hw hw' => h (Fin.ext ?_)
  exact ((Finset.mem_filter.mp hw).2).symm.trans (Finset.mem_filter.mp hw').2
theorem cores_cover : (Finset.univ : Finset (Fin 2)).biUnion coreSet = Finset.univ := by
  ext w
  simp only [Finset.mem_biUnion, Finset.mem_univ, true_and, iff_true]
  exact ⟨⟨(w 0).val / 32768 % 2, Nat.mod_lt _ (by decide)⟩, Finset.mem_filter.mpr ⟨Finset.mem_univ _, rfl⟩⟩
theorem tiles_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun w hw hw' => h (Fin.ext ?_)
  have h1 := (Finset.mem_filter.mp hw).2
  have h2 := (Finset.mem_filter.mp hw').2
  omega
theorem tiles_cover (c : Fin 2) : (Finset.univ : Finset (Fin 16)).biUnion (tileSet c) = coreSet c := by
  ext w
  have hw : (w 0).val < 1048576 := (w 0).isLt
  have hc := c.isLt
  simp only [Finset.mem_biUnion, Finset.mem_univ, true_and, coreSet, tileSet, Finset.mem_filter]
  constructor
  · rintro ⟨i, hi⟩; omega
  · intro h; exact ⟨⟨(w 0).val / 32768 / 2, by omega⟩, by show _ = (w 0).val / 32768 / 2 * 2 + c.val; omega⟩
theorem pieces_disjoint (c : Fin 2) (i : Fin 16) : ∀ k ∈ (Finset.univ : Finset (Fin 8)), ∀ k' ∈ (Finset.univ : Finset (Fin 8)), k ≠ k' → Disjoint (pieceSet c i k) (pieceSet c i k') := by
  intro k _ k' _ h
  refine Finset.disjoint_left.mpr fun w hw hw' => h (Fin.ext ?_)
  have h1 := (Finset.mem_filter.mp hw).2
  have h2 := (Finset.mem_filter.mp hw').2
  omega
theorem pieces_cover (c : Fin 2) (i : Fin 16) : (Finset.univ : Finset (Fin 8)).biUnion (pieceSet c i) = tileSet c i := by
  ext w
  simp only [Finset.mem_biUnion, Finset.mem_univ, true_and, pieceSet, tileSet, Finset.mem_filter]
  constructor
  · rintro ⟨k, hk⟩; have := k.isLt; omega
  · intro h; exact ⟨⟨(w 0).val / 4096 % 8, by omega⟩, by show _ = _ + (w 0).val / 4096 % 8; omega⟩

/-- The piece the body slices is the task's words. -/
theorem out_set (L : grid0.Coords) (c : Fin 2) (i : Fin 16) (hc : (L 0).val = c.val) (hi : (L 1).val = i.val) (k : Fin 8) :
    (outM L k).view.set = pieceSet c i k := by
  have ho : k0_off2 L (BitVec.ofNat 32 k.val) 0 = tk L k * 4096 := off2_eq L k
  have ht : tk L k = (i.val * 2 + c.val) * 8 + k.val := by unfold tk; rw [hc, hi]
  have hl := tk_lt L k
  have e : ∀ x : S4096.Idx, (((outM L k).view.emb x) 0).val = tk L k * 4096 + (x 0).val := by
    intro x
    show k0_off2 L (BitVec.ofNat 32 k.val) 0 + 1 * (x 0).val = _
    rw [ho]; omega
  ext w
  simp only [pieceSet, Finset.mem_filter, Finset.mem_univ, true_and]
  rw [← ht]
  constructor
  · intro h
    obtain ⟨x, -, hx⟩ := Finset.mem_map.mp h
    have h1 := e x
    have hx0 : (x 0).val < 4096 := (x 0).isLt
    have h2 : (((outM L k).view.emb x) 0).val = (w 0).val := congrArg (fun y : S1048576.Idx => (y 0).val) hx
    omega
  · intro h
    let x : S4096.Idx := Shape.ofLane (d := ![4096]) ⟨(w 0).val % 4096, Nat.mod_lt _ (by decide)⟩
    refine Finset.mem_map.mpr ⟨x, Finset.mem_univ _, ?_⟩
    funext a
    refine Fin.cases ?_ (fun a => a.elim0) a
    apply Fin.ext
    have h1 := e x
    have hx : (x 0).val = (w 0).val % 4096 := rfl
    show (((outM L k).view.emb x) 0).val = (w 0).val
    omega

theorem hPts_cores (d : Dev nD) (f : Buf (Elt F) (hLoc d)) :
    (hLoc d ↦{fullShare} f : sProp 𝕄) = bigSep Finset.univ fun c : Fin 2 => hLoc d ↦[coreSet c]{fullShare} f := by
  rw [← pointsTo_biUnion Finset.univ (ℓ := hLoc d) coreSet cores_disjoint, cores_cover]; try rfl
theorem hPts_tiles (d : Dev nD) (c : Fin 2) (f : Buf (Elt F) (hLoc d)) :
    (hLoc d ↦[coreSet c]{fullShare} f : sProp 𝕄) = bigSep Finset.univ fun i : Fin 16 => hLoc d ↦[tileSet c i]{fullShare} f := by
  rw [← pointsTo_biUnion Finset.univ (ℓ := hLoc d) (tileSet c) (tiles_disjoint c), tiles_cover]

/-- A tile's words are its eight tasks' pieces, in the body's spelling. -/
theorem hPts_pieces (d : Dev nD) (L : grid0.Coords) (c : Fin 2) (i : Fin 16) (hc : (L 0).val = c.val) (hi : (L 1).val = i.val) (f : Buf (Elt F) (hLoc d)) :
    (hLoc d ↦[tileSet c i]{fullShare} f : sProp 𝕄) = outsPts d L f := by
  rw [← pieces_cover c i, pointsTo_biUnion Finset.univ (ℓ := hLoc d) (pieceSet c i) (pieces_disjoint c i)]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  simp only [← out_set L c i hc hi]

/-- A tile's share of the edge table: the core's share dealt to its sixteen tiles. -/
abbrev coreShare (c : Fin 2) : PosShare TreeShare := Transfers.dealOf fullShare (Finset.univ : Finset (Fin 2)) c
abbrev tileShare (c : Fin 2) (i : Fin 16) : PosShare TreeShare := Transfers.dealOf (coreShare c) (Finset.univ : Finset (Fin 16)) i

/-! ## What the handshakes carry -/

-- the edge table as the call finds it, and the histogram before it
variable (eV : Dev nD → (Vn 8192).Idx → F .f32) (hV : (d : Dev nD) → Buf (Elt F) (hLoc d))

abbrev gTile (d : Dev nD) (c : Fin 2) (i : Fin 16) : sProp 𝕄 := gLoc d ↦{tileShare c i} (eV d : Buf (Elt F) (gLoc d))
abbrev gCore (d : Dev nD) (c : Fin 2) : sProp 𝕄 := gLoc d ↦{coreShare c} (eV d : Buf (Elt F) (gLoc d))
abbrev hTile (d : Dev nD) (c : Fin 2) (i : Fin 16) (f : Buf (Elt F) (hLoc d)) : sProp 𝕄 := hLoc d ↦[tileSet c i]{fullShare} f
abbrev hCore (d : Dev nD) (c : Fin 2) (f : Buf (Elt F) (hLoc d)) : sProp 𝕄 := hLoc d ↦[coreSet c]{fullShare} f

/-- Each core takes its share of the table and its half of the histogram, each tile its share of both; the histogram comes
    back at the count of the table's edges. -/
def P : (K (F := F)).Pay (nD := nD) (Val := Elt F) (Name := ℕ) (U := UU) where
  st := fun q d c => match q with | 0 => iprop(gCore eV d (Fin.cast nCore_zero c) ∗ hCore d (Fin.cast nCore_zero c) (hV d))
  dn := fun q d c => match q with | 0 => iprop(gCore eV d (Fin.cast nCore_zero c) ∗ hCore d (Fin.cast nCore_zero c) (histF (eV d)))
  go := fun q d c i => match q with
    | 0 => iprop(gTile eV d (Fin.cast nCore_zero c) (Fin.cast nSub_zero i) ∗ hTile d (Fin.cast nCore_zero c) (Fin.cast nSub_zero i) (hV d))
  td := fun q d c i => match q with
    | 0 => iprop(gTile eV d (Fin.cast nCore_zero c) (Fin.cast nSub_zero i) ∗ hTile d (Fin.cast nCore_zero c) (Fin.cast nSub_zero i) (histF (eV d)))
  x := fun _ _ => iprop(emp)

instance P_storable : (P (F := F) eV hV).IsStorable where
  st q d c := match q with
    | 0 => (inferInstance : BI.Storable (upEmb : UEmb _ 𝕄) iprop(gCore eV d (Fin.cast nCore_zero c) ∗ hCore d (Fin.cast nCore_zero c) (hV d)))
  dn q d c := match q with
    | 0 => (inferInstance : BI.Storable (upEmb : UEmb _ 𝕄) iprop(gCore eV d (Fin.cast nCore_zero c) ∗ hCore d (Fin.cast nCore_zero c) (histF (eV d))))
  go q d c i := match q with
    | 0 => (inferInstance : BI.Storable (upEmb : UEmb _ 𝕄)
        iprop(gTile eV d (Fin.cast nCore_zero c) (Fin.cast nSub_zero i) ∗ hTile d (Fin.cast nCore_zero c) (Fin.cast nSub_zero i) (hV d)))
  td q d c i := match q with
    | 0 => (inferInstance : BI.Storable (upEmb : UEmb _ 𝕄)
        iprop(gTile eV d (Fin.cast nCore_zero c) (Fin.cast nSub_zero i) ∗ hTile d (Fin.cast nCore_zero c) (Fin.cast nSub_zero i) (histF (eV d))))

/-! ## A tile's own cells and buffers -/

section Tile

variable (d : Dev nD) (L : grid0.Coords)

/-- The cell of the task's region `n`. -/
abbrev cellN (s : DmaSems sig S_) : GSem nD τ sig := (V d (cV L) (jV L), .dma s.sem)
theorem cellN_ne {s s' : DmaSems sig S_} (h : s.sem ≠ s'.sem) : cellN d L s ≠ cellN d L s' := by
  intro e; exact h (SemLoc.dma.inj (Prod.ext_iff.mp e).2)
theorem cellN_own {s : DmaSems sig S_} (h : (SemLoc.dma s.sem : SemLoc sig).isScoped .scVector = true) : cellN d L s ∈ ownCells (V d (cV L) (jV L)) :=
  (mem_ownCells (g := cellN d L s)).mpr ⟨rfl, h⟩

/-- A cell among the own ones, after others were set apart. -/
theorem mem_apart {s : DmaSems sig S_} (l : List (DmaSems sig S_)) (hs : (SemLoc.dma s.sem : SemLoc sig).isScoped .scVector = true) (hl : ∀ s' ∈ l, s.sem ≠ s'.sem) :
    cellN d L s ∈ l.foldl (fun S s' => S.erase (cellN d L s')) (ownCells (V d (cV L) (jV L))) := by
  suffices h : ∀ (l : List (DmaSems sig S_)) (S : Finset (GSem nD τ sig)), cellN d L s ∈ S → (∀ s' ∈ l, s.sem ≠ s'.sem) →
      cellN d L s ∈ l.foldl (fun S s' => S.erase (cellN d L s')) S from h l _ (cellN_own d L hs) hl
  intro l
  induction l with
  | nil => intro S h _; exact h
  | cons a l ih =>
    intro S h hl
    exact ih _ (Finset.mem_erase.mpr ⟨cellN_ne d L (hl a List.mem_cons_self), h⟩) fun s' hs' => hl s' (List.mem_cons_of_mem _ hs')

/-- The cells left over. -/
abbrev restCells : Finset (GSem nD τ sig) :=
  [cc0_scoped0, cc0_scoped1, cc0_scoped2, cc0_scoped3, cc0_scoped4, cc0_scoped5, cc0_scoped6, cc0_scoped7, cc0_scoped8].foldl (fun S s' => S.erase (cellN d L s')) (ownCells (V d (cV L) (jV L)))
theorem ownSems0_V :
    (ownSems0 (V d (cV L) (jV L)) : sProp 𝕄) = iprop(semPts d L ∗ bigSep (restCells d L) fun g => semVal g 0) := by
  unfold SparseCore.Cfg.ownSems0
  unfold semPts
  simp only [show ∀ A B C : sProp 𝕄, iprop((A ∗ B) ∗ C) = iprop(A ∗ B ∗ C) from fun A B C => equiv_iff.mp ⟨BI.sep_assoc, BI.sep_assoc'⟩]
  refine (SparseCore.bigSep_erase' (mem_apart d L (s := cc0_scoped0) [] (by decide) (by decide))).trans ?_
  refine congrArg (fun X : sProp 𝕄 => iprop(semVal (cellN d L cc0_scoped0) 0 ∗ X)) ?_
  refine (SparseCore.bigSep_erase' (mem_apart d L (s := cc0_scoped1) [cc0_scoped0] (by decide) (by decide))).trans ?_
  refine congrArg (fun X : sProp 𝕄 => iprop(semVal (cellN d L cc0_scoped1) 0 ∗ X)) ?_
  refine (SparseCore.bigSep_erase' (mem_apart d L (s := cc0_scoped2) [cc0_scoped0, cc0_scoped1] (by decide) (by decide))).trans ?_
  refine congrArg (fun X : sProp 𝕄 => iprop(semVal (cellN d L cc0_scoped2) 0 ∗ X)) ?_
  refine (SparseCore.bigSep_erase' (mem_apart d L (s := cc0_scoped3) [cc0_scoped0, cc0_scoped1, cc0_scoped2] (by decide) (by decide))).trans ?_
  refine congrArg (fun X : sProp 𝕄 => iprop(semVal (cellN d L cc0_scoped3) 0 ∗ X)) ?_
  refine (SparseCore.bigSep_erase' (mem_apart d L (s := cc0_scoped4) [cc0_scoped0, cc0_scoped1, cc0_scoped2, cc0_scoped3] (by decide) (by decide))).trans ?_
  refine congrArg (fun X : sProp 𝕄 => iprop(semVal (cellN d L cc0_scoped4) 0 ∗ X)) ?_
  refine (SparseCore.bigSep_erase' (mem_apart d L (s := cc0_scoped5) [cc0_scoped0, cc0_scoped1, cc0_scoped2, cc0_scoped3, cc0_scoped4] (by decide) (by decide))).trans ?_
  refine congrArg (fun X : sProp 𝕄 => iprop(semVal (cellN d L cc0_scoped5) 0 ∗ X)) ?_
  refine (SparseCore.bigSep_erase' (mem_apart d L (s := cc0_scoped6) [cc0_scoped0, cc0_scoped1, cc0_scoped2, cc0_scoped3, cc0_scoped4, cc0_scoped5] (by decide) (by decide))).trans ?_
  refine congrArg (fun X : sProp 𝕄 => iprop(semVal (cellN d L cc0_scoped6) 0 ∗ X)) ?_
  refine (SparseCore.bigSep_erase' (mem_apart d L (s := cc0_scoped7) [cc0_scoped0, cc0_scoped1, cc0_scoped2, cc0_scoped3, cc0_scoped4, cc0_scoped5, cc0_scoped6] (by decide) (by decide))).trans ?_
  refine congrArg (fun X : sProp 𝕄 => iprop(semVal (cellN d L cc0_scoped7) 0 ∗ X)) ?_
  refine (SparseCore.bigSep_erase' (mem_apart d L (s := cc0_scoped8) [cc0_scoped0, cc0_scoped1, cc0_scoped2, cc0_scoped3, cc0_scoped4, cc0_scoped5, cc0_scoped6, cc0_scoped7] (by decide) (by decide))).trans ?_
  refine congrArg (fun X : sProp 𝕄 => iprop(semVal (cellN d L cc0_scoped8) 0 ∗ X)) ?_
  rfl

/-- The tile's own buffers are its two scratches, and the rest. -/
abbrev restRefs : Finset (DevRef τ sig) :=
  ((ownRefs (τ := τ) (.scVector (cV L) (jV L))).erase ((Proc.scVector (cV L) (jV L)).devRef cc0_scratch0)).erase ((Proc.scVector (cV L) (jV L)).devRef cc0_scratch1)
theorem ownBufs_V :
    (ownBufs (V d (cV L) (jV L)) : sProp 𝕄)
      = iprop((∃ f, ePts d L f) ∗ (∃ f, hPts d L f) ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task on a tile, in the launch's terms. -/
theorem tile_body (hF : (K (F := F)).Facts) (c : Fin 2) (i : Fin 16) (hc : (L 0).val = c.val) (hi : (L 1).val = i.val)
    (O : CellTallies nD τ sig (HIx 1)) (W : Waits sig (HIx 1)) (hO : ∀ g, O g none = 0) :
    iprop(levAts (K (F := F)).L (K (F := F)).lev ∗ emp ∗ (gTile eV d c i ∗ hTile d c i (hV d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_body (F := F) L (Memref.whole main_v13_scv) (Memref.isWhole_whole _) (Memref.whole main_v14_scv) (Memref.isWhole_whole _) (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7 cc0_scoped8)
          fun _ => iprop((gTile eV d c i ∗ hTile d c i (histF (eV d))) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold hTile
  rw [hPts_pieces d L c i hc hi, hPts_pieces d L c i hc hi]
  iintro ⟨#Hlv, -, ⟨Hg, Ho⟩, ⟨⟨%fe, He⟩, ⟨%fh, Hh⟩, Hbufs⟩, ⟨Hsem, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (task_run d L (tileShare c i) (eV d) fe fh (hV d) O W _)
  isplitl [Hg]; · iexact Hg
  isplitl [He]; · iexact He
  isplitl [Hh]; · iexact Hh
  isplitl [Ho]; · iexact Ho
  isplitl [Hsem]; · iexact Hsem
  isplitl [Hmw]; · iexact Hmw
  isplitl [HO]; · iexact HO
  iintro %W' %g' ⟨Hg, He, Hh, Ho, Hsem, HO⟩
  isplitl [Hg Ho]
  · isplitl [Hg]; · iexact Hg
    iexact Ho
  isplitl [He Hh Hbufs]
  · isplitl [He]; · iexists _; iexact He
    isplitl [Hh]; · iexists _; iexact Hh
    iexact Hbufs
  isplitl [Hsem Hsems]
  · isplitl [Hsem]; · iexact Hsem
    iexact Hsems
  iexists W'; isplitr
  · ipureintro; intro p _
    rcases p.2 with _ | q
    · exact .inr (.inl rfl)
    · exact .inr (.inr (congrArg some (Subsingleton.elim q 0)))
  · iexact HO

/-! ## The call's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          (Memref.whole main_v13_scv) (Memref.isWhole_whole _) (Memref.whole main_v14_scv) (Memref.isWhole_whole _) (Memref.whole cc0_scratch0) (Memref.isWhole_whole _) (Memref.whole cc0_scratch1) (Memref.isWhole_whole _)
          cc0_scoped0 cc0_scoped1 cc0_scoped2 cc0_scoped3 cc0_scoped4 cc0_scoped5 cc0_scoped6 cc0_scoped7 cc0_scoped8) ⟨⟩ c s := rfl

theorem tileObl (hF : (K (F := F)).Facts) : (K (F := F)).TileObl (D (F := F)) 𝒱 (P eV hV) v₀ 0 := by
  intro d c i O W hO _ _
  simp only [show (P (F := F) eV hV).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body eV hV d (coordsV ⟨_, hci.1⟩ ⟨_, hci.2⟩) hF (Fin.cast nCore_zero c) (Fin.cast nSub_zero i) rfl rfl O W hO

end Tile

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P eV hV) 0 := by
  intro d c
  show iprop(gCore eV d (Fin.cast nCore_zero c) ∗ hCore d (Fin.cast nCore_zero c) (hV d)) ⊢ |={Set.univ}=> iprop(
      (bigSep Finset.univ fun i : Fin ((K (F := F)).nSub 0) => iprop(gTile eV d (Fin.cast nCore_zero c) (Fin.cast nSub_zero i)
          ∗ hTile d (Fin.cast nCore_zero c) (Fin.cast nSub_zero i) (hV d)))
      ∗ ((bigSep Finset.univ fun i : Fin ((K (F := F)).nSub 0) => iprop(gTile eV d (Fin.cast nCore_zero c) (Fin.cast nSub_zero i)
          ∗ hTile d (Fin.cast nCore_zero c) (Fin.cast nSub_zero i) (histF (eV d))))
          -∗ iprop(gCore eV d (Fin.cast nCore_zero c) ∗ hCore d (Fin.cast nCore_zero c) (histF (eV d)))))
  generalize Fin.cast nCore_zero c = c
  rw [bigSep_tiles (F := F) (fun i => iprop(gTile eV d c i ∗ hTile d c i (hV d))),
    bigSep_tiles (F := F) (fun i => iprop(gTile eV d c i ∗ hTile d c i (histF (eV d)))), bigSep_sep', bigSep_sep']
  unfold gCore hCore gTile hTile
  rw [Transfers.pointsTo_deal (Finset.univ : Finset (Fin 16)) ⟨0, Finset.mem_univ _⟩ (coreShare c), hPts_tiles, hPts_tiles]
  iintro H; imodintro
  isplitl [H]; · iexact H
  iintro H; iexact H

/-- The two arrays whole are what the call takes, -/
theorem st0_eq (d : Dev nD) :
    (bigSep Finset.univ fun c : Fin ((K (F := F)).nCore 0) => (P (F := F) eV hV).st 0 d c)
      = iprop((gLoc d ↦{fullShare} (eV d : Buf (Elt F) (gLoc d))) ∗ hLoc d ↦{fullShare} hV d) := by
  refine (bigSep_cores (F := F) (fun c => iprop(gCore eV d c ∗ hCore d c (hV d)))).trans ?_
  rw [bigSep_sep', hPts_cores, Transfers.pointsTo_deal (Finset.univ : Finset (Fin 2)) ⟨0, Finset.mem_univ _⟩ fullShare]
/-- and brings back. -/
theorem dn0_eq (d : Dev nD) :
    (bigSep Finset.univ fun c : Fin ((K (F := F)).nCore 0) => (P (F := F) eV hV).dn 0 d c)
      = iprop((gLoc d ↦{fullShare} (eV d : Buf (Elt F) (gLoc d))) ∗ hLoc d ↦{fullShare} histF (eV d)) := by
  refine (bigSep_cores (F := F) (fun c => iprop(gCore eV d c ∗ hCore d c (histF (eV d))))).trans ?_
  rw [bigSep_sep', hPts_cores, Transfers.pointsTo_deal (Finset.univ : Finset (Fin 2)) ⟨0, Finset.mem_univ _⟩ fullShare]

end Cert.Proof.KernelIdealRun

end
-- ==== Proof.RegionIdeal.lean ====
/-
  The TensorCore kernel of the program: one grid point's body, and the region it runs in.
-/
module

public import proofs.«01_k».proof.Proof.SplitIdeal
public import proofs.«01_k».proof.Proof.Slab
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.Value

@[expose] public section

set_option maxRecDepth 16384

noncomputable section

namespace Cert.Proof.KernelIdealRun

open Cert.KernelIdeal Cert.KernelIdeal.Gen
open Cert.Proof.Hist
open Cert.Proof.Slab

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [∀ e, Nonempty (Elt F e)]

local notation "𝕄" => MT nD τ sig (HIx 1) (Elt F) ℕ UU ℕ

theorem zero3 : (![0, 0, 0] : Fin 3 → Nat) = fun _ => 0 := funext fun a => by fin_cases a <;> rfl

/-- A buffer stored whole reads as what was stored. -/
theorem read_stored {sp : Space} {s : Shape} {e : EltTy} (v : View sig .tc sp s e) (f : v.ty.Contents (Elt F)) {off : Fin s.rank → Nat} (h : off = fun _ => 0)
    (inb : ∀ a, off a + s.size a ≤ s.size a) (w : s.Idx → Elt F e) :
    v.read (Elt F) (v.writes (Elt F) f [⟨Rect.unit off s.size inb, w⟩]) = w :=
  (View.read_writes_eq_canon _ _ _ fun y => ⟨_, List.mem_singleton_self _, View.mem_set_unit_zero h inb y⟩).trans (View.canon_unit_zero h inb w)

/-- The body on four whole buffers: the two results' buffers end at the payloads of the two operands' contents. -/
theorem tc_body (c : Dev nD) (i : grid1.Coords)
    (a1 : Memref sig .tc .vmem S16x32x256 .f32) (h1 : a1.IsWhole) (a2 : Memref sig .tc .vmem S64x32x256 .f32) (h2 : a2.IsWhole)
    (a3 : Memref sig .tc .vmem S16x32x256 .f32) (h3 : a3.IsWhole) (a4 : Memref sig .tc .vmem S64x32x256 .f32) (h4 : a4.IsWhole)
    (x1 x3 : S16x32x256.Idx → F .f32) (x2 x4 : S64x32x256.Idx → F .f32) (Q : PUnit → sProp 𝕄) :
    iprop(owns (c : Thread nD τ) a1 fullShare x1 ∗ owns (c : Thread nD τ) a2 fullShare x2
      ∗ owns (c : Thread nD τ) a3 fullShare x3 ∗ owns (c : Thread nD τ) a4 fullShare x4
      ∗ (owns (c : Thread nD τ) a1 fullShare x1 ∗ owns (c : Thread nD τ) a2 fullShare x2
        ∗ owns (c : Thread nD τ) a3 fullShare (k1_pay1 x1) ∗ owns (c : Thread nD τ) a4 fullShare (k1_pay2 x1 x2) -∗ Q ⟨⟩))
    ⊢ wp frame (wpE (defs₀ (F := F)) 𝒱₀ (c : Thread nD τ) none) Set.univ (cc1__tc_fuse_body (F := F) i a1 h1 a2 h2 a3 h3 a4 h4) Q := by
  unfold owns
  rw [cc1__tc_fuse_body_eq_skeleton]; unfold cc1__tc_fuse_body_skel
  simp only [Prog.lift, Prog.bind_op, Prog.bind_ret]
  iintro ⟨⟨%f1, %e1, H1⟩, ⟨%f2, %e2, H2⟩, ⟨%f3, %e3, H3⟩, ⟨%f4, %e4, H4⟩, Hk⟩
  sl_exec
  sl_step
  iapply Hk
  have r1 : ∀ g : a1.view.ty.Contents (Elt F), View.readAt (Elt F) a1.view
      (Rect.unit (s := S16x32x256) ![0, 0, 0] ![16, 32, 256] inb_S16x32x256_S16x32x256_0_0_0).toLoadRect g = View.read (Elt F) a1.view g := fun g => by
    rw [View.readAt_eq_ld]; exact View.ld_unit_zero zero3 _ _
  have r2 : ∀ g : a2.view.ty.Contents (Elt F), View.readAt (Elt F) a2.view
      (Rect.unit (s := S64x32x256) ![0, 0, 0] ![64, 32, 256] inb_S64x32x256_S64x32x256_0_0_0).toLoadRect g = View.read (Elt F) a2.view g := fun g => by
    rw [View.readAt_eq_ld]; exact View.ld_unit_zero zero3 _ _
  rw [r1, r2, e1, e2]
  isplitl [H1]
  · iexists f1; isplitr; · ipureintro; exact e1
    iexact H1
  isplitl [H2]
  · iexists f2; isplitr; · ipureintro; exact e2
    iexact H2
  isplitl [H3]
  · iexists _; isplitr; swap; · iexact H3
    ipureintro
    exact read_stored _ _ zero3 _ _
  · iexists _; isplitr; swap; · iexact H4
    ipureintro
    exact read_stored _ _ zero3 _ _

/-! ## The region -/

section Data

variable (W : Dev nD → Valuation τ sig (Elt F))

/-- What the fetches bring at point `t`: thirty-two rows of every polygon's histogram, and of every feature plane. -/
def hblk (c : Dev nD) (t : Fin cfg1.N) : S16x32x256.Idx → F .f32 := (win1_0.blk t).view.read (Elt F) (W c (Proc.devRef .tc main_v15))
def fblk (c : Dev nD) (t : Fin cfg1.N) : S64x32x256.Idx → F .f32 := (win1_1.blk t).view.read (Elt F) (W c (Proc.devRef .tc main_v16))

/-- The proof data: the arrays at their contents on entry, after each body the operands' blocks and the payloads, nothing
    kept between points, nothing owed. -/
def dats (_ : Fin 1) (c : Dev nD) : Dat τ (Elt F) (HIx 1) ℕ UU ℕ cfg1 c where
  A w := W c (Proc.devRef .tc (Pipeline.arrRef spec1 w))
  after w t := match w with
    | ⟨0, _⟩ => hblk W c t
    | ⟨1, _⟩ => fblk W c t
    | ⟨2, _⟩ => k1_pay1 (hblk W c t)
    | ⟨3, _⟩ => k1_pay2 (hblk W c t) (fblk W c t)
  Φ _ := iprop(emp)
  q _ := fullShare
  owed _ := 0
  recorded _ := {p | (K (F := F)).lev (T c, p.1) p.2 ≤ 8}

theorem A_eq (c : Dev nD) (w : Fin cfg1.W) : (dats W 0 c).A w = W c (Proc.devRef .tc (Pipeline.arrRef spec1 w)) := by
  dsimp only [dats]

theorem before_0 (c : Dev nD) (t : Fin cfg1.N) (x : (cfg1.win 0).block.Idx → Elt F (cfg1.win 0).elt) :
    (dats W 0 c).before 0 t x = hblk W c t := by
  unfold Dat.before; rw [if_pos (fetch1_0 t)]; rfl
theorem before_1 (c : Dev nD) (t : Fin cfg1.N) (x : (cfg1.win 1).block.Idx → Elt F (cfg1.win 1).elt) :
    (dats W 0 c).before 1 t x = fblk W c t := by
  unfold Dat.before; rw [if_pos (fetch1_1 t)]; rfl

theorem defs₀_tc (t : Fin cfg1.N) : defs₀ (F := F) .tc cfg1.body (cfg1.bodyArgs t (cfg1.slots t)) = bodyAt1 t := rfl

theorem body_obligation (c : Dev nD) : BodyObligation (dats W 0 c) (defs₀ (F := F)) 𝒱₀ (none : HIx 1) Set.univ := fun t => by
  rw [bigSep_W1, bigSep_W1, defs₀_tc]
  rw [show (dats W 0 c).Φ t.castSucc = iprop(emp) from rfl, show (dats W 0 c).Φ t.succ = iprop(emp) from rfl,
    show (dats W 0 c).owesAt none t.succ = (dats W 0 c).owesAt none t.castSucc from rfl]
  iintro ⟨HΦ, HO, ⟨%d0, H0⟩, ⟨%d1, H1⟩, ⟨%d2, H2⟩, ⟨%d3, H3⟩⟩
  rw [before_0, before_1]
  iapply (tc_body c (grid1.coords t) _ _ _ _ _ _ _ _ (hblk W c t) ((dats W 0 c).before 2 t d2) (fblk W c t) ((dats W 0 c).before 3 t d3) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-! ## Entering the region from the buffers of the host operations -/

abbrev EP : Emb UP 𝕄 := (Emb.inl : Emb UP (UP × Counters)).trans embR

abbrev adm : (p : Fin 1) → (pcfgs (F := F) p).Adm := fun p => (cfgs p).toPCfg_adm

/-- The unscoped buffers outside the region's arrays. -/
abbrev aside : Finset (DevRef τ sig) := Pipeline.ucRefs τ sig \ Pipeline.arrRefs spec1

theorem arrs_uc : Pipeline.arrRefs spec1 ⊆ Pipeline.ucRefs τ sig := Pipeline.arrRefs_sub_ucRefs spec1 (by decide)

/-- The buffers when the region is left. -/
def left (c : Dev nD) : Valuation τ sig (Elt F) := Pipeline.afterRegion (dats W 0 c) (W c)

/-- The core owes nothing, and every wait it made so far lies below the end of the task the tiles ran. -/
abbrev idle (c : Dev nD) : sProp 𝕄 :=
  iprop(∃ X, ⌜(K (F := F)).WBelow (T c) X (8)⌝ ∗ owes (T c) (0 : CellTallies nD τ sig (HIx 1)) X)

theorem idle_in (c : Dev nD) : (idle (F := F) c : sProp 𝕄) ⊢ (dats W 0 c).owesAt none 0 := by
  unfold Dat.owesAt Pipeline.owesWithin Dat.bound
  iintro ⟨%X, %hX, H⟩
  iexists X
  isplitr; · ipureintro; exact fun p hp => Or.inl (hX p hp)
  iexact H

theorem idle_out (c : Dev nD) : ((dats W 0 c).owesAt none (Fin.last cfg1.N) : sProp 𝕄) ⊢ idle (F := F) c := by
  unfold Dat.owesAt Pipeline.owesWithin Dat.bound
  iintro ⟨%X, %hX, H⟩
  iexists X
  isplitr
  · ipureintro
    intro p hp
    rcases hX hp with h | ⟨w, s, rfl⟩
    · exact h
    · exact Nat.zero_le _
  iexact H

theorem arrays_at (c : Dev nD) (V : Valuation τ sig (Elt F)) (n : ℕ) (h : ∀ w, (dats W 0 c).arrAt w n = V (Proc.devRef .tc (Pipeline.arrRef spec1 w))) :
    ((dats W 0 c).arrays ((dats W 0 c).arrAt · n) : sProp 𝕄) = StableHlo.held (c : Thread nD τ) (Pipeline.arrRefs spec1) V :=
  Pipeline.arrays_held (pcfgs (F := F)) adm (dats W) 0 launch1.toP c ((dats W 0 c).share_full fun _ => rfl) _ V h

/-- The region as a segment of the run: entered from the unscoped buffers at `W`, nothing owed. -/
def reg : Pipeline.RegionSeg (pcfgs (F := F)) adm (dats W) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(StableHlo.held (c : Thread nD τ) (Pipeline.ucRefs τ sig) (W c) ∗ idle (F := F) c)
  post c := iprop(StableHlo.held (c : Thread nD τ) (Pipeline.ucRefs τ sig) (left W c) ∗ idle (F := F) c)
  X _ := iprop(emp)
  Y _ := iprop(emp)
  Z c := StableHlo.held (c : Thread nD τ) aside (W c)
  hentry c := by
    rw [Pipeline.ownSems0_none, Pipeline.prefHeld_of_none _ rfl, StableHlo.held_sub_split (c : Thread nD τ) arrs_uc (W c),
      ← arrays_at W c (W c) 0 fun w => A_eq W c w]
    iintro ⟨⟨⟨Ha, Hr⟩, HO⟩, -, -⟩
    imodintro
    isplitl [Ha]; · iexact Ha
    isplitr; · iempintro
    isplitl [HO]; · iapply (idle_in W c); iexact HO
    isplitr; · iempintro
    iexact Hr
  hin c := by
    rw [show Pipeline.scopedRest (pcfgs (F := F) 0).spec c = iprop(emp) from scopedRest1_eq c]
    show _ ⊢ iprop(emp)
    iintro -
    iempintro
  hout c := by
    rw [show Pipeline.scopedRest (pcfgs (F := F) 0).spec c = iprop(emp) from scopedRest1_eq c, Pipeline.ownSems0_none]
    iintro -
    isplitr; · iempintro
    isplitr <;> iempintro
  hexit c := by
    rw [StableHlo.held_sub_split (c : Thread nD τ) arrs_uc (left W c),
      ← arrays_at W c (left W c) cfg1.N fun w => (Pipeline.afterRegion_arr (dats W 0 c) (W c) launch1.win.arr_inj w).symm,
      StableHlo.held_congr (c : Thread nD τ) (S := aside) (V := left W c) (V' := W c) (Pipeline.afterRegion_off (dats W 0 c) (W c) (Pipeline.ucRefs τ sig))]
    iintro ⟨Ha, HO, -, Hr⟩
    imodintro
    isplitl [Ha Hr]
    · isplitl [Ha]; · iexact Ha
      iexact Hr
    iapply (idle_out W c); iexact HO

/-! ## What the region leaves -/

/-- A buffer that is no result of the region's keeps its contents. -/
theorem left_other (c : Dev nD) (r : Ref sig .tc) (h : ∀ w, Pipeline.arrRef spec1 w = r → (cfg1.win w).isOut = false) :
    left W c (Proc.devRef .tc r) = W c (Proc.devRef .tc r) :=
  Pipeline.afterRegion_keeps (dats W 0 c) (W c) launch1.win.arr_inj (A_eq W c) r h

theorem emb_0 (t : Fin cfg1.N) (j : S16x32x256.Idx) (a : Fin 3) : (((win1_0.blk t).view.emb j) a).val = win1_0.index t a * win1_0.size a + 1 * (j a).val := rfl
theorem idx_0 (t : Fin cfg1.N) : win1_0.index t 0 * win1_0.size 0 = 0 ∧ win1_0.index t 1 * win1_0.size 1 = 32 * t.val ∧ win1_0.index t 2 * win1_0.size 2 = 0 := by
  revert t; decide +kernel
theorem emb_1 (t : Fin cfg1.N) (j : S64x32x256.Idx) (a : Fin 3) : (((win1_1.blk t).view.emb j) a).val = win1_1.index t a * win1_1.size a + 1 * (j a).val := rfl
theorem idx_1 (t : Fin cfg1.N) : win1_1.index t 0 * win1_1.size 0 = 0 ∧ win1_1.index t 1 * win1_1.size 1 = 32 * t.val ∧ win1_1.index t 2 * win1_1.size 2 = 0 := by
  revert t; decide +kernel
theorem emb_2 (t : Fin cfg1.N) (j : S16x32x256.Idx) (a : Fin 3) : (((win1_2.blk t).view.emb j) a).val = win1_2.index t a * win1_2.size a + 1 * (j a).val := rfl
theorem idx_2 (t : Fin cfg1.N) : win1_2.index t 0 * win1_2.size 0 = 0 ∧ win1_2.index t 1 * win1_2.size 1 = 32 * t.val ∧ win1_2.index t 2 * win1_2.size 2 = 0 := by
  revert t; decide +kernel
theorem emb_3 (t : Fin cfg1.N) (j : S64x32x256.Idx) (a : Fin 3) : (((win1_3.blk t).view.emb j) a).val = win1_3.index t a * win1_3.size a + 1 * (j a).val := rfl
theorem idx_3 (t : Fin cfg1.N) : win1_3.index t 0 * win1_3.size 0 = 0 ∧ win1_3.index t 1 * win1_3.size 1 = 32 * t.val ∧ win1_3.index t 2 * win1_3.size 2 = 0 := by
  revert t; decide +kernel

/-- The grid's points and the slabs are counted alike. -/
abbrev pt8 (t : Fin 8) : Fin cfg1.N := t.cast N_1.symm
abbrev sl8 (t : Fin cfg1.N) : Fin 8 := t.cast N_1

/-- Each fetch brings a slab of its array. -/
theorem hblk_eq (c : Dev nD) (t : Fin cfg1.N) : hblk W c t = slab (W c (Proc.devRef .tc main_v15) : S16x256x256.Idx → F .f32) (sl8 t) := by
  funext j
  exact slab_at (n := 16) _ (sl8 t) j ((win1_0.blk t).view.emb j) (by rw [emb_0, (idx_0 t).1]; omega) (by rw [emb_0, (idx_0 t).2.1]; show 32 * t.val + _ = 32 * t.val + _; omega) (by rw [emb_0, (idx_0 t).2.2]; omega)
theorem fblk_eq (c : Dev nD) (t : Fin cfg1.N) : fblk W c t = slab (W c (Proc.devRef .tc main_v16) : S64x256x256.Idx → F .f32) (sl8 t) := by
  funext j
  exact slab_at (n := 64) _ (sl8 t) j ((win1_1.blk t).view.emb j) (by rw [emb_1, (idx_1 t).1]; omega) (by rw [emb_1, (idx_1 t).2.1]; show 32 * t.val + _ = 32 * t.val + _; omega) (by rw [emb_1, (idx_1 t).2.2]; omega)

/-- The two results, from the histogram and the feature planes. -/
def maskOf (h : S16x256x256.Idx → F .f32) : S16x256x256.Idx → F .f32 := glue fun t => k1_pay1 (slab h t)
def fuseOf (h : S16x256x256.Idx → F .f32) (f : S64x256x256.Idx → F .f32) : S64x256x256.Idx → F .f32 := glue fun t => k1_pay2 (slab h t) (slab f t)

theorem flushed_2 (c : Dev nD) (t : Fin cfg1.N) :
    (dats W 0 c).flushed 2 t = (win1_2.blk t).view.read (Elt F) (maskOf (W c (Proc.devRef .tc main_v15))) := by
  show k1_pay1 (hblk W c t) = _
  rw [hblk_eq]
  funext j
  exact (glue_at (n := 16) (fun t => k1_pay1 (slab (W c (Proc.devRef .tc main_v15) : S16x256x256.Idx → F .f32) t)) (sl8 t) j ((win1_2.blk t).view.emb j) (by rw [emb_2, (idx_2 t).1]; omega) (by rw [emb_2, (idx_2 t).2.1]; show 32 * t.val + _ = 32 * t.val + _; omega) (by rw [emb_2, (idx_2 t).2.2]; omega)).symm
theorem flushed_3 (c : Dev nD) (t : Fin cfg1.N) :
    (dats W 0 c).flushed 3 t = (win1_3.blk t).view.read (Elt F) (fuseOf (W c (Proc.devRef .tc main_v15)) (W c (Proc.devRef .tc main_v16))) := by
  show k1_pay2 (hblk W c t) (fblk W c t) = _
  rw [hblk_eq, fblk_eq]
  funext j
  exact (glue_at (n := 64) (fun t => k1_pay2 (slab (W c (Proc.devRef .tc main_v15) : S16x256x256.Idx → F .f32) t) (slab (W c (Proc.devRef .tc main_v16) : S64x256x256.Idx → F .f32) t)) (sl8 t) j ((win1_3.blk t).view.emb j) (by rw [emb_3, (idx_3 t).1]; omega) (by rw [emb_3, (idx_3 t).2.1]; show 32 * t.val + _ = 32 * t.val + _; omega) (by rw [emb_3, (idx_3 t).2.2]; omega)).symm

theorem mem_blk_2 (t : Fin cfg1.N) (i : S16x256x256.Idx) : i ∈ ((cfg1.win 2).blk t).view.set ↔ 32 * t.val ≤ (i 1).val ∧ (i 1).val < 32 * t.val + 32 := by
  show i ∈ ((View.whole main_v17_0).slice (win1_2.rect t)).set ↔ _
  rw [View.set_slice_whole, Rect.mem_set_unit]
  have g0 : (i 0).val < 16 := (i 0).isLt
  have g2 : (i 2).val < 256 := (i 2).isLt
  have e := idx_2 t
  have x : win1_2.xsize (grid1.coords t) 0 = 16 ∧ win1_2.xsize (grid1.coords t) 1 = 32 ∧ win1_2.xsize (grid1.coords t) 2 = 256 := by
    clear e; revert t; decide +kernel
  refine ⟨fun h => ?_, fun h a => ?_⟩
  · have h1 : win1_2.index t 1 * win1_2.size 1 ≤ (i 1).val ∧ (i 1).val < win1_2.index t 1 * win1_2.size 1 + win1_2.xsize (grid1.coords t) 1 := h 1
    rw [e.2.1, x.2.1] at h1; exact h1
  · match a with
    | ⟨0, _⟩ =>
      show win1_2.index t 0 * win1_2.size 0 ≤ (i 0).val ∧ (i 0).val < win1_2.index t 0 * win1_2.size 0 + win1_2.xsize (grid1.coords t) 0
      rw [e.1, x.1]; omega
    | ⟨1, _⟩ =>
      show win1_2.index t 1 * win1_2.size 1 ≤ (i 1).val ∧ (i 1).val < win1_2.index t 1 * win1_2.size 1 + win1_2.xsize (grid1.coords t) 1
      rw [e.2.1, x.2.1]; exact h
    | ⟨2, _⟩ =>
      show win1_2.index t 2 * win1_2.size 2 ≤ (i 2).val ∧ (i 2).val < win1_2.index t 2 * win1_2.size 2 + win1_2.xsize (grid1.coords t) 2
      rw [e.2.2, x.2.2]; omega

theorem cover_2 (i : S16x256x256.Idx) : ∃ t : Fin cfg1.N, (cfg1.win 2).flush t = true ∧ i ∈ ((cfg1.win 2).blk t).view.set :=
  ⟨pt8 (slabOf i), flush1_2 _, (mem_blk_2 _ i).mpr (row_of i)⟩

theorem mem_blk_3 (t : Fin cfg1.N) (i : S64x256x256.Idx) : i ∈ ((cfg1.win 3).blk t).view.set ↔ 32 * t.val ≤ (i 1).val ∧ (i 1).val < 32 * t.val + 32 := by
  show i ∈ ((View.whole main_v17_1).slice (win1_3.rect t)).set ↔ _
  rw [View.set_slice_whole, Rect.mem_set_unit]
  have g0 : (i 0).val < 64 := (i 0).isLt
  have g2 : (i 2).val < 256 := (i 2).isLt
  have e := idx_3 t
  have x : win1_3.xsize (grid1.coords t) 0 = 64 ∧ win1_3.xsize (grid1.coords t) 1 = 32 ∧ win1_3.xsize (grid1.coords t) 2 = 256 := by
    clear e; revert t; decide +kernel
  refine ⟨fun h => ?_, fun h a => ?_⟩
  · have h1 : win1_3.index t 1 * win1_3.size 1 ≤ (i 1).val ∧ (i 1).val < win1_3.index t 1 * win1_3.size 1 + win1_3.xsize (grid1.coords t) 1 := h 1
    rw [e.2.1, x.2.1] at h1; exact h1
  · match a with
    | ⟨0, _⟩ =>
      show win1_3.index t 0 * win1_3.size 0 ≤ (i 0).val ∧ (i 0).val < win1_3.index t 0 * win1_3.size 0 + win1_3.xsize (grid1.coords t) 0
      rw [e.1, x.1]; omega
    | ⟨1, _⟩ =>
      show win1_3.index t 1 * win1_3.size 1 ≤ (i 1).val ∧ (i 1).val < win1_3.index t 1 * win1_3.size 1 + win1_3.xsize (grid1.coords t) 1
      rw [e.2.1, x.2.1]; exact h
    | ⟨2, _⟩ =>
      show win1_3.index t 2 * win1_3.size 2 ≤ (i 2).val ∧ (i 2).val < win1_3.index t 2 * win1_3.size 2 + win1_3.xsize (grid1.coords t) 2
      rw [e.2.2, x.2.2]; omega

theorem cover_3 (i : S64x256x256.Idx) : ∃ t : Fin cfg1.N, (cfg1.win 3).flush t = true ∧ i ∈ ((cfg1.win 3).blk t).view.set :=
  ⟨pt8 (slabOf i), flush1_3 _, (mem_blk_3 _ i).mpr (row_of i)⟩

/-- The result arrays when the region is left. -/
theorem left_mask (c : Dev nD) : left W c (Proc.devRef .tc main_v17_0) = maskOf (W c (Proc.devRef .tc main_v15)) :=
  (Pipeline.afterRegion_arr (dats W 0 c) (W c) launch1.win.arr_inj 2).trans
    ((dats W 0 c).arrAt_eq_of_cover 2 _ (fun t _ => flushed_2 W c t) cover_2)
theorem left_fuse (c : Dev nD) : left W c (Proc.devRef .tc main_v17_1) = fuseOf (W c (Proc.devRef .tc main_v15)) (W c (Proc.devRef .tc main_v16)) :=
  (Pipeline.afterRegion_arr (dats W 0 c) (W c) launch1.win.arr_inj 3).trans
    ((dats W 0 c).arrAt_eq_of_cover 3 _ (fun t _ => flushed_3 W c t) cover_3)

end Data

end Cert.Proof.KernelIdealRun

end
-- ==== Proof.RunIdeal.lean ====
/-
  The program's run: the host operations, the histogram on the tiles, the second kernel on the TensorCore, and what the
  buffers hold at the end.
-/
module

public import proofs.«01_k».proof.Proof.RegionIdeal
public import Idealize.ShloMosaic.Lib.SparseCore.Quiescent
public import Idealize.ShloMosaic.Lib.StableHlo.RunRead

@[expose] public section

set_option maxRecDepth 16384

noncomputable section

namespace Cert.Proof.KernelIdealRun

open Cert.KernelIdeal Cert.KernelIdeal.Gen
open Cert.Proof.Hist
open Cert.Proof.Slab

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

/-- The host operations before the histogram: the clipped coordinates, their successors, and the edge table. -/
abbrev opsA : List (HloOp τ sig (Elt F)) :=
  [ StableHlo.unary main_arg0 main_v0 ((extractStridedSlice S16x128x1 ![0, 0, 0] · slices_S16x128x2_S16x128x1_0_0_0) : (⟨S16x128x2, .f32⟩ : BufTy).Contents (Elt F) → (⟨S16x128x1, .f32⟩ : BufTy).Contents (Elt F)),
    StableHlo.reshape main_v0 main_v1 (rfl : (.f32 : EltTy) = .f32) shapeCasts_S16x128x1_S16x128,
    StableHlo.nullary main_cst (constant S_ .f32 0x00000000#32),
    StableHlo.nullary main_cst_0 (constant S_ .f32 0x437F0000#32),
    StableHlo.TRef.unary (StableHlo.TRef.of (T := ⟨S_, .f32⟩) main_cst) (StableHlo.TRef.of (T := ⟨S_, .f32⟩) main_call0_v0) id,
    StableHlo.TRef.unary (StableHlo.TRef.of (T := ⟨S_, .f32⟩) main_call0_v0) (StableHlo.TRef.of (T := ⟨S16x128, .f32⟩) main_call0_v1) (broadcastInDim S16x128 ![] bcast_S_S16x128),
    StableHlo.TRef.binary (StableHlo.TRef.of (T := ⟨S16x128, .f32⟩) main_call0_v1) (StableHlo.TRef.of (T := ⟨S16x128, .f32⟩) main_v1) (StableHlo.TRef.of (T := ⟨S16x128, .f32⟩) main_call0_v2) maximumf,
    StableHlo.TRef.unary (StableHlo.TRef.of (T := ⟨S_, .f32⟩) main_cst_0) (StableHlo.TRef.of (T := ⟨S_, .f32⟩) main_call0_v3) id,
    StableHlo.TRef.unary (StableHlo.TRef.of (T := ⟨S_, .f32⟩) main_call0_v3) (StableHlo.TRef.of (T := ⟨S16x128, .f32⟩) main_call0_v4) (broadcastInDim S16x128 ![] bcast_S_S16x128),
    StableHlo.TRef.binary (StableHlo.TRef.of (T := ⟨S16x128, .f32⟩) main_call0_v4) (StableHlo.TRef.of (T := ⟨S16x128, .f32⟩) main_call0_v2) (StableHlo.TRef.of (T := ⟨S16x128, .f32⟩) main_v2) minimumf,
    StableHlo.unary main_arg0 main_v3 ((extractStridedSlice S16x128x1 ![0, 0, 1] · slices_S16x128x2_S16x128x1_0_0_1) : (⟨S16x128x2, .f32⟩ : BufTy).Contents (Elt F) → (⟨S16x128x1, .f32⟩ : BufTy).Contents (Elt F)),
    StableHlo.reshape main_v3 main_v4 (rfl : (.f32 : EltTy) = .f32) shapeCasts_S16x128x1_S16x128,
    StableHlo.nullary main_cst_1 (constant S_ .f32 0x00000000#32),
    StableHlo.nullary main_cst_2 (constant S_ .f32 0x437F0000#32),
    StableHlo.TRef.unary (StableHlo.TRef.of (T := ⟨S_, .f32⟩) main_cst_1) (StableHlo.TRef.of (T := ⟨S_, .f32⟩) main_call1_v0) id,
    StableHlo.TRef.unary (StableHlo.TRef.of (T := ⟨S_, .f32⟩) main_call1_v0) (StableHlo.TRef.of (T := ⟨S16x128, .f32⟩) main_call1_v1) (broadcastInDim S16x128 ![] bcast_S_S16x128),
    StableHlo.TRef.binary (StableHlo.TRef.of (T := ⟨S16x128, .f32⟩) main_call1_v1) (StableHlo.TRef.of (T := ⟨S16x128, .f32⟩) main_v4) (StableHlo.TRef.of (T := ⟨S16x128, .f32⟩) main_call1_v2) maximumf,
    StableHlo.TRef.unary (StableHlo.TRef.of (T := ⟨S_, .f32⟩) main_cst_2) (StableHlo.TRef.of (T := ⟨S_, .f32⟩) main_call1_v3) id,
    StableHlo.TRef.unary (StableHlo.TRef.of (T := ⟨S_, .f32⟩) main_call1_v3) (StableHlo.TRef.of (T := ⟨S16x128, .f32⟩) main_call1_v4) (broadcastInDim S16x128 ![] bcast_S_S16x128),
    StableHlo.TRef.binary (StableHlo.TRef.of (T := ⟨S16x128, .f32⟩) main_call1_v4) (StableHlo.TRef.of (T := ⟨S16x128, .f32⟩) main_call1_v2) (StableHlo.TRef.of (T := ⟨S16x128, .f32⟩) main_v5) minimumf,
    StableHlo.TRef.unary (StableHlo.TRef.of (T := ⟨S16x128, .f32⟩) main_v2) (StableHlo.TRef.of (T := ⟨S16x127, .f32⟩) main_call2_v0) (extractStridedSlice S16x127 ![0, 1] · slices_S16x128_S16x127_0_1),
    StableHlo.TRef.unary (StableHlo.TRef.of (T := ⟨S16x128, .f32⟩) main_v2) (StableHlo.TRef.of (T := ⟨S16x1, .f32⟩) main_call2_v1) (extractStridedSlice S16x1 ![0, 0] · slices_S16x128_S16x1_0_0),
    StableHlo.TRef.binary (StableHlo.TRef.of (T := ⟨S16x127, .f32⟩) main_call2_v0) (StableHlo.TRef.of (T := ⟨S16x1, .f32⟩) main_call2_v1) (StableHlo.TRef.of (T := ⟨S16x128, .f32⟩) main_v6) (fun a b => concatenate S16x128 1 [⟨S16x127, a⟩, ⟨S16x1, b⟩] concatenates_S16x127_S16x1_S16x128_d1),
    StableHlo.TRef.unary (StableHlo.TRef.of (T := ⟨S16x128, .f32⟩) main_v5) (StableHlo.TRef.of (T := ⟨S16x127, .f32⟩) main_call3_v0) (extractStridedSlice S16x127 ![0, 1] · slices_S16x128_S16x127_0_1),
    StableHlo.TRef.unary (StableHlo.TRef.of (T := ⟨S16x128, .f32⟩) main_v5) (StableHlo.TRef.of (T := ⟨S16x1, .f32⟩) main_call3_v1) (extractStridedSlice S16x1 ![0, 0] · slices_S16x128_S16x1_0_0),
    StableHlo.TRef.binary (StableHlo.TRef.of (T := ⟨S16x127, .f32⟩) main_call3_v0) (StableHlo.TRef.of (T := ⟨S16x1, .f32⟩) main_call3_v1) (StableHlo.TRef.of (T := ⟨S16x128, .f32⟩) main_v7) (fun a b => concatenate S16x128 1 [⟨S16x127, a⟩, ⟨S16x1, b⟩] concatenates_S16x127_S16x1_S16x128_d1),
    StableHlo.unary main_v2 main_v8 (broadcastInDim S16x1x128 ![0, 2] bcast_S16x128_S16x1x128_0_2 : (⟨S16x128, .f32⟩ : BufTy).Contents (Elt F) → (⟨S16x1x128, .f32⟩ : BufTy).Contents (Elt F)),
    StableHlo.unary main_v5 main_v9 (broadcastInDim S16x1x128 ![0, 2] bcast_S16x128_S16x1x128_0_2 : (⟨S16x128, .f32⟩ : BufTy).Contents (Elt F) → (⟨S16x1x128, .f32⟩ : BufTy).Contents (Elt F)),
    StableHlo.unary main_v6 main_v10 (broadcastInDim S16x1x128 ![0, 2] bcast_S16x128_S16x1x128_0_2 : (⟨S16x128, .f32⟩ : BufTy).Contents (Elt F) → (⟨S16x1x128, .f32⟩ : BufTy).Contents (Elt F)),
    StableHlo.unary main_v7 main_v11 (broadcastInDim S16x1x128 ![0, 2] bcast_S16x128_S16x1x128_0_2 : (⟨S16x128, .f32⟩ : BufTy).Contents (Elt F) → (⟨S16x1x128, .f32⟩ : BufTy).Contents (Elt F)),
    StableHlo.nary ![main_v8, main_v9, main_v10, main_v11] main_v12 (fun u => (concatenate S16x4x128 1 [⟨S16x1x128, (u 0 : (⟨S16x1x128, .f32⟩ : BufTy).Contents (Elt F))⟩, ⟨S16x1x128, (u 1 : (⟨S16x1x128, .f32⟩ : BufTy).Contents (Elt F))⟩, ⟨S16x1x128, (u 2 : (⟨S16x1x128, .f32⟩ : BufTy).Contents (Elt F))⟩, ⟨S16x1x128, (u 3 : (⟨S16x1x128, .f32⟩ : BufTy).Contents (Elt F))⟩] concatenates_S16x1x128_S16x1x128_S16x1x128_S16x1x128_S16x4x128_d1 : (⟨S16x4x128, .f32⟩ : BufTy).Contents (Elt F))),
    StableHlo.reshape main_v12 main_v13 (rfl : (.f32 : EltTy) = .f32) shapeCasts_S16x4x128_S8192 ]

/-- The host operations between the histogram and the second kernel: two changes of shape. -/
abbrev opsB : List (HloOp τ sig (Elt F)) :=
  [ StableHlo.reshape main_v14 main_v15 (rfl : (.f32 : EltTy) = .f32) shapeCasts_S1048576_S16x256x256,
    StableHlo.reshape main_arg1 main_v16 (rfl : (.f32 : EltTy) = .f32) shapeCasts_S1x64x256x256_S64x256x256 ]

/-- The host operations after the second kernel: a leading axis of one. -/
abbrev opsC : List (HloOp τ sig (Elt F)) :=
  [ StableHlo.unary main_v17_0 main_v18 (broadcastInDim S1x16x256x256 ![1, 2, 3] bcast_S16x256x256_S1x16x256x256_1_2_3 : (⟨S16x256x256, .f32⟩ : BufTy).Contents (Elt F) → (⟨S1x16x256x256, .f32⟩ : BufTy).Contents (Elt F)),
    StableHlo.unary main_v17_1 main_v19 (broadcastInDim S1x64x256x256 ![1, 2, 3] bcast_S64x256x256_S1x64x256x256_1_2_3 : (⟨S64x256x256, .f32⟩ : BufTy).Contents (Elt F) → (⟨S1x64x256x256, .f32⟩ : BufTy).Contents (Elt F)) ]

theorem opsA_sub : (opsA : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.nary_bufs_sub .., StableHlo.reshape_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsA_writes : (opsA : List (HloOp τ sig (Elt F))).map HloOp.writes = [main_v0, main_v1, main_cst, main_cst_0, main_call0_v0, main_call0_v1, main_call0_v2, main_call0_v3, main_call0_v4, main_v2, main_v3, main_v4, main_cst_1, main_cst_2, main_call1_v0, main_call1_v1, main_call1_v2, main_call1_v3, main_call1_v4, main_v5, main_call2_v0, main_call2_v1, main_v6, main_call3_v0, main_call3_v1, main_v7, main_v8, main_v9, main_v10, main_v11, main_v12, main_v13].map fun w => {Proc.devRef (τ := τ) .tc w} := rfl

theorem opsB_sub : (opsB : List (HloOp τ sig (Elt F))).Forall fun op => op.bufs ⊆ StableHlo.tcRefs τ sig :=
  ⟨StableHlo.reshape_bufs_sub .., StableHlo.reshape_bufs_sub ..⟩
theorem opsB_fresh : (opsB : List (HloOp τ sig (Elt F))).Forall fun op => op.fresh = ∅ :=
  ⟨rfl, rfl⟩
theorem opsB_writes : (opsB : List (HloOp τ sig (Elt F))).map HloOp.writes = [main_v15, main_v16].map fun w => {Proc.devRef (τ := τ) .tc w} := rfl

theorem opsC_sub : (opsC : List (HloOp τ sig (Elt F))).Forall fun op => op.bufs ⊆ StableHlo.tcRefs τ sig :=
  ⟨StableHlo.unary_bufs_sub .., StableHlo.unary_bufs_sub ..⟩
theorem opsC_fresh : (opsC : List (HloOp τ sig (Elt F))).Forall fun op => op.fresh = ∅ :=
  ⟨rfl, rfl⟩
theorem opsC_writes : (opsC : List (HloOp τ sig (Elt F))).map HloOp.writes = [main_v18, main_v19].map fun w => {Proc.devRef (τ := τ) .tc w} := rfl

set_option maxHeartbeats 4000000 in
/-- @main is its three lines of host operations around the two calls. -/
theorem main_eq (d : Dev nD) : main (F := F) d = (do
    StableHlo.seq opsA
    (K (F := F)).run d 0
    StableHlo.seq opsB
    SparseCore.liftProg (.op (.customCall (Pipeline.entry 0) ()) .ret)
    StableHlo.seq opsC) := rfl

/-! ## What the host operations compute -/

/-- The points' two coordinates, held between zero and 255. -/
def coordX (x : S16x128x2.Idx → F .f32) : S16x128.Idx → F .f32 :=
  minimumf (broadcastInDim S16x128 ![] bcast_S_S16x128 (id (constant S_ .f32 0x437F0000#32)))
    (maximumf (broadcastInDim S16x128 ![] bcast_S_S16x128 (id (constant S_ .f32 0x00000000#32)))
      (shapeCast _ (extractStridedSlice S16x128x1 ![0, 0, 0] x slices_S16x128x2_S16x128x1_0_0_0) shapeCasts_S16x128x1_S16x128))
def coordY (x : S16x128x2.Idx → F .f32) : S16x128.Idx → F .f32 :=
  minimumf (broadcastInDim S16x128 ![] bcast_S_S16x128 (id (constant S_ .f32 0x437F0000#32)))
    (maximumf (broadcastInDim S16x128 ![] bcast_S_S16x128 (id (constant S_ .f32 0x00000000#32)))
      (shapeCast _ (extractStridedSlice S16x128x1 ![0, 0, 1] x slices_S16x128x2_S16x128x1_0_0_1) shapeCasts_S16x128x1_S16x128))

/-- Each polygon's next point, the last one's being the first. -/
def nextPt (a : S16x128.Idx → F .f32) : S16x128.Idx → F .f32 :=
  concatenate S16x128 1 [⟨S16x127, extractStridedSlice S16x127 ![0, 1] a slices_S16x128_S16x127_0_1⟩,
    ⟨S16x1, extractStridedSlice S16x1 ![0, 0] a slices_S16x128_S16x1_0_0⟩] concatenates_S16x127_S16x1_S16x128_d1

/-- The edge table: per polygon the first ends' two coordinates and the second ends'. -/
def edgeTab (x : S16x128x2.Idx → F .f32) : S8192.Idx → F .f32 :=
  shapeCast _ (concatenate S16x4x128 1
    [⟨S16x1x128, broadcastInDim S16x1x128 ![0, 2] bcast_S16x128_S16x1x128_0_2 (coordX x)⟩,
     ⟨S16x1x128, broadcastInDim S16x1x128 ![0, 2] bcast_S16x128_S16x1x128_0_2 (coordY x)⟩,
     ⟨S16x1x128, broadcastInDim S16x1x128 ![0, 2] bcast_S16x128_S16x1x128_0_2 (nextPt (coordX x))⟩,
     ⟨S16x1x128, broadcastInDim S16x1x128 ![0, 2] bcast_S16x128_S16x1x128_0_2 (nextPt (coordY x))⟩]
    concatenates_S16x1x128_S16x1x128_S16x1x128_S16x1x128_S16x4x128_d1) shapeCasts_S16x4x128_S8192

set_option maxHeartbeats 4000000 in
theorem after_edges (V : Valuation τ sig (Elt F)) :
    StableHlo.after opsA V (Proc.devRef .tc main_v13) = edgeTab (V (Proc.devRef .tc main_arg0)) := by
  simp only [opsA, StableHlo.TRef.binary, StableHlo.TRef.nullary, StableHlo.TRef.unary, StableHlo.TRef.toBuf, StableHlo.TRef.ofBuf, cast_eq]
  after_results_simp <;> rfl

theorem arg0_A (V : Valuation τ sig (Elt F)) : StableHlo.after opsA V (Proc.devRef .tc main_arg0) = V (Proc.devRef .tc main_arg0) :=
  StableHlo.after_unwritten _ opsA_writes (by decide) V
theorem arg1_A (V : Valuation τ sig (Elt F)) : StableHlo.after opsA V (Proc.devRef .tc main_arg1) = V (Proc.devRef .tc main_arg1) :=
  StableHlo.after_unwritten _ opsA_writes (by decide) V
theorem arg0_B (V : Valuation τ sig (Elt F)) : StableHlo.after opsB V (Proc.devRef .tc main_arg0) = V (Proc.devRef .tc main_arg0) :=
  StableHlo.after_unwritten _ opsB_writes (by decide) V
theorem arg1_B (V : Valuation τ sig (Elt F)) : StableHlo.after opsB V (Proc.devRef .tc main_arg1) = V (Proc.devRef .tc main_arg1) :=
  StableHlo.after_unwritten _ opsB_writes (by decide) V
theorem arg0_C (V : Valuation τ sig (Elt F)) : StableHlo.after opsC V (Proc.devRef .tc main_arg0) = V (Proc.devRef .tc main_arg0) :=
  StableHlo.after_unwritten _ opsC_writes (by decide) V
theorem arg1_C (V : Valuation τ sig (Elt F)) : StableHlo.after opsC V (Proc.devRef .tc main_arg1) = V (Proc.devRef .tc main_arg1) :=
  StableHlo.after_unwritten _ opsC_writes (by decide) V

theorem hist_B (V : Valuation τ sig (Elt F)) :
    StableHlo.after opsB V (Proc.devRef .tc main_v15) = (shapeCast _ (V (Proc.devRef .tc main_v14) : S1048576.Idx → F .f32) shapeCasts_S1048576_S16x256x256 : S16x256x256.Idx → F .f32) := by
  simp only [opsB]
  after_results_simp <;> rfl
theorem feat_B (V : Valuation τ sig (Elt F)) :
    StableHlo.after opsB V (Proc.devRef .tc main_v16) = (shapeCast _ (V (Proc.devRef .tc main_arg1) : S1x64x256x256.Idx → F .f32) shapeCasts_S1x64x256x256_S64x256x256 : S64x256x256.Idx → F .f32) := by
  simp only [opsB]
  after_results_simp <;> rfl
theorem mask_C (V : Valuation τ sig (Elt F)) :
    StableHlo.after opsC V (Proc.devRef .tc main_v18) = broadcastInDim S1x16x256x256 ![1, 2, 3] bcast_S16x256x256_S1x16x256x256_1_2_3 (V (Proc.devRef .tc main_v17_0) : S16x256x256.Idx → F .f32) := by
  simp only [opsC]
  after_results_simp <;> rfl
theorem fuse_C (V : Valuation τ sig (Elt F)) :
    StableHlo.after opsC V (Proc.devRef .tc main_v19) = broadcastInDim S1x64x256x256 ![1, 2, 3] bcast_S64x256x256_S1x64x256x256_1_2_3 (V (Proc.devRef .tc main_v17_1) : S64x256x256.Idx → F .f32) := by
  simp only [opsC]
  after_results_simp <;> rfl

/-! ## The buffers along the run -/

variable [∀ e, Nonempty (Elt F e)]

section Run

variable (m : (ℓ : Loc nD τ sig) → Buf (Elt F) ℓ) (ρ : Dev nD → PrngReg)

/-- Device `d`'s buffers at launch, before the histogram, after it, before the second kernel, after it, and at the end. -/
def VZ (d : Dev nD) : Valuation τ sig (Elt F) := fun b => m (d, b)
def VA (d : Dev nD) : Valuation τ sig (Elt F) := StableHlo.after opsA (VZ m d)
def VB (d : Dev nD) : Valuation τ sig (Elt F) :=
  Function.update (VA m d) (Proc.devRef .tc main_v14) (histF (VA m d (Proc.devRef .tc main_v13)) : S1048576.Idx → F .f32)
def VC (d : Dev nD) : Valuation τ sig (Elt F) := StableHlo.after opsB (VB m d)
def VD (d : Dev nD) : Valuation τ sig (Elt F) := left (VC m) d
def VE (d : Dev nD) : Valuation τ sig (Elt F) := StableHlo.after opsC (VD m d)

/-- What the handshakes of the histogram's call carry. -/
abbrev PM : (K (F := F)).Pay (nD := nD) (Val := Elt F) (Name := ℕ) (U := UU) :=
  P (fun d => VA m d (Proc.devRef .tc main_v13)) (fun d => VA m d (Proc.devRef .tc main_v14))

/-- The edge table and the histogram among the buffers. -/
def pair : Finset (DevRef τ sig) := {Proc.devRef .tc main_v13, Proc.devRef .tc main_v14}
theorem pair_uc : pair ⊆ Pipeline.ucRefs τ sig := by
  intro b hb
  rcases Finset.mem_insert.mp hb with rfl | hb
  · exact Finset.mem_filter.mpr ⟨StableHlo.devRef_mem_tcRefs _, by decide⟩
  · rw [Finset.mem_singleton.mp hb]
    exact Finset.mem_filter.mpr ⟨StableHlo.devRef_mem_tcRefs _, by decide⟩
theorem held_pair (d : Dev nD) (V : Valuation τ sig (Elt F)) :
    (StableHlo.held (d : Thread nD τ) pair V : sProp 𝕄)
      = iprop((gLoc d ↦{fullShare} (V (Proc.devRef .tc main_v13) : Buf (Elt F) (gLoc d))) ∗ hLoc d ↦{fullShare} (V (Proc.devRef .tc main_v14) : Buf (Elt F) (hLoc d))) := by
  unfold StableHlo.held pair
  rw [SparseCore.bigSep_insert' (by decide), bigSep_singleton]

theorem VB_off (d : Dev nD) (b : DevRef τ sig) (h : b ≠ Proc.devRef .tc main_v14) : VB m d b = VA m d b := Function.update_of_ne h _ _
theorem VB_hist (d : Dev nD) : VB m d (Proc.devRef .tc main_v14) = (histF (VA m d (Proc.devRef .tc main_v13)) : S1048576.Idx → F .f32) := Function.update_self _ _ _

/-- The buffers with the pair apart; and together again after the call. -/
theorem uc_split (d : Dev nD) (V : Valuation τ sig (Elt F)) :
    (StableHlo.held (d : Thread nD τ) (Pipeline.ucRefs τ sig) V : sProp 𝕄)
      = iprop(((gLoc d ↦{fullShare} (V (Proc.devRef .tc main_v13) : Buf (Elt F) (gLoc d))) ∗ hLoc d ↦{fullShare} (V (Proc.devRef .tc main_v14) : Buf (Elt F) (hLoc d)))
        ∗ StableHlo.held (d : Thread nD τ) (Pipeline.ucRefs τ sig \ pair) V) := by
  rw [StableHlo.held_sub_split (d : Thread nD τ) pair_uc V, held_pair]
theorem uc_open (d : Dev nD) :
    (StableHlo.held (d : Thread nD τ) (Pipeline.ucRefs τ sig) (StableHlo.after opsA (VZ m d)) : sProp 𝕄)
      ⊢ iprop(((gLoc d ↦{fullShare} (VA m d (Proc.devRef .tc main_v13) : Buf (Elt F) (gLoc d))) ∗ hLoc d ↦{fullShare} (VA m d (Proc.devRef .tc main_v14) : Buf (Elt F) (hLoc d)))
        ∗ StableHlo.held (d : Thread nD τ) (Pipeline.ucRefs τ sig \ pair) (VA m d)) :=
  Entails.of_eq (uc_split d (VA m d))
theorem uc_join (d : Dev nD) :
    (iprop(((gLoc d ↦{fullShare} (VA m d (Proc.devRef .tc main_v13) : Buf (Elt F) (gLoc d))) ∗ hLoc d ↦{fullShare} (histF (VA m d (Proc.devRef .tc main_v13)) : Buf (Elt F) (hLoc d)))
        ∗ StableHlo.held (d : Thread nD τ) (Pipeline.ucRefs τ sig \ pair) (VA m d)) : sProp 𝕄)
      = StableHlo.held (d : Thread nD τ) (Pipeline.ucRefs τ sig) (VB m d) := by
  rw [uc_split d (VB m d), VB_hist, VB_off m d (Proc.devRef .tc main_v13) (by decide),
    StableHlo.held_congr (d : Thread nD τ) (S := Pipeline.ucRefs τ sig \ pair) (V := VB m d) (V' := VA m d) fun b hb => VB_off m d b fun e =>
      (Finset.mem_sdiff.mp hb).2 (e ▸ Finset.mem_insert_of_mem (Finset.mem_singleton_self _))]

/-- The four buffers the claim speaks of. -/
def ends : Finset (DevRef τ sig) := {Proc.devRef .tc main_arg0, Proc.devRef .tc main_arg1, Proc.devRef .tc main_v18, Proc.devRef .tc main_v19}
theorem ends_uc : ends ⊆ Pipeline.ucRefs τ sig := by
  intro b hb
  simp only [ends, Finset.mem_insert, Finset.mem_singleton] at hb
  rcases hb with rfl | rfl | rfl | rfl <;> exact Finset.mem_filter.mpr ⟨StableHlo.devRef_mem_tcRefs _, by decide⟩

abbrev FIN (d : Dev nD) : sProp 𝕄 := StableHlo.held (d : Thread nD τ) ends (VE m d)

/-- The second kernel's staging cells and transfers, held from the launch. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem sub_uc {l : List (HloOp τ sig (Elt F))} (h : l.Forall fun op => op.bufs ⊆ StableHlo.tcRefs τ sig) :
    ∀ op ∈ l, op.bufs ⊆ Pipeline.ucRefs τ sig :=
  fun op hop => Pipeline.sub_ucRefs op ((List.forall_iff_forall_mem.mp h) op hop)

/-- The core's state after the call: idle, and the handshake's positions. -/
abbrev stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem st1_eq (d : Dev nD) : ((K (F := F)).tcSt EH d 1 : sProp 𝕄) = iprop(idle (F := F) d ∗ stRest (F := F) d) := by
  unfold SparseCore.Cfg.tcSt
  rw [(K (F := F)).Otc_end d le_rfl]; rfl

theorem st1_open (d : Dev nD) : ((K (F := F)).tcSt EH d ((0 : Fin 1).val + 1) : sProp 𝕄) ⊢ iprop(idle (F := F) d ∗ stRest (F := F) d) :=
  Entails.of_eq (st1_eq d)

/-- The region's two ends, in full. -/
theorem region_enter (W : Dev nD → Valuation τ sig (Elt F)) (d : Dev nD) :
    (iprop(StableHlo.held (d : Thread nD τ) (Pipeline.ucRefs τ sig) (W d) ∗ idle (F := F) d) : sProp 𝕄) ⊢ (reg W).pre d := .rfl
theorem region_left (W : Dev nD → Valuation τ sig (Elt F)) (d : Dev nD) :
    ((reg W).post d : sProp 𝕄) ⊢ iprop(StableHlo.held (d : Thread nD τ) (Pipeline.ucRefs τ sig) (left W d) ∗ idle (F := F) d) := .rfl

/-- The second kernel's call. -/
theorem region_call (κ : GSem nD τ sig → ℕ) (d : Dev nD) (Q : PUnit → sProp 𝕄) :
    iprop((K (F := F)).ctx EH (PM m) κ ∗ boundary (d : Thread nD τ) ∗ StableHlo.held (d : Thread nD τ) (Pipeline.ucRefs τ sig) (VC m d) ∗ idle (F := F) d ∗ G d
        ∗ ((boundary (d : Thread nD τ) ∗ StableHlo.held (d : Thread nD τ) (Pipeline.ucRefs τ sig) (VD m d) ∗ idle (F := F) d) -∗ Q ⟨⟩))
      ⊢ wp frame (wpE ((K (F := F)).defs (D (F := F))) 𝒱 (SparseCore.T d) none) Set.univ
          (SparseCore.liftProg (.op (.customCall (Pipeline.entry 0) ()) .ret)) Q := by
  refine BIBase.Entails.trans ?_ ((K (F := F)).wp_liftProg (D (F := F)) 𝒱 (SparseCore.T d) Set.univ none (.op (.customCall (Pipeline.entry 0) ()) .ret) Q)
  refine BIBase.Entails.trans ?_ (Pipeline.RegionSeg.wp (pcfgs (F := F)) adm (dats (VC m)) (none : HIx 1) cellOf_inj (EP (F := F)) (defs₀ (F := F)) 𝒱₀ _ _
    (reg (VC m)) d none (fun u hu => absurd hu (Option.not_mem_none u)) .ret Q)
  iintro ⟨Hctx, Hb, Hh, Hi, ⟨Hgh, Htk⟩, Hk⟩
  ihave Hl := (SparseCore.Cfg.ctx_levAts κ) $$ Hctx
  isplitl [Hk]
  · iintro ⟨Hb, Hp⟩
    ihave Hp' := (region_left (VC m) d) $$ Hp
    icases Hp' with ⟨Hh, Hi⟩
    rw [wp_ret]
    imodintro
    iapply Hk
    isplitl [Hb]; · iexact Hb
    isplitl [Hh]; · iexact Hh
    iexact Hi
  isplitl [Hb]; · iexact Hb
  isplitl [Hh Hi]
  · iapply (region_enter (VC m) d)
    isplitl [Hh]; · iexact Hh
    iexact Hi
  isplitl [Hl]; · iexact Hl
  isplitl [Hgh]; · iexact Hgh
  iexact Htk

theorem fin_of (d : Dev nD) : (StableHlo.held (d : Thread nD τ) (Pipeline.ucRefs τ sig) (StableHlo.after opsC (VD m d)) : sProp 𝕄) ⊢ FIN m d := by
  show (StableHlo.held (d : Thread nD τ) (Pipeline.ucRefs τ sig) (VE m d) : sProp 𝕄) ⊢ FIN m d
  rw [StableHlo.held_sub_split (d : Thread nD τ) ends_uc (VE m d)]
  exact sep_elim_left

/-- @main on device `d`'s TensorCore, from the buffers at launch to the buffers at the end. -/
theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b)) = (StableHlo.held (d : Thread nD τ) (Pipeline.ucRefs τ sig) (VZ m d) : sProp 𝕄) from
    Pipeline.unscopedBufs_held d (VZ m d)]
  iintro ⟨#Hctx, Hst, ⟨Hb, Hh, Hts, -⟩, Hgh, Htk⟩
  iapply (StableHlo.wp_seq (defs := (K (F := F)).defs (D (F := F))) 𝒱 none Set.univ d (Pipeline.ucRefs τ sig) _ opsA (sub_uc opsA_sub) (List.forall_iff_forall_mem.mp opsA_fresh) (VZ m d)) $$ [Hb Hh]
  · isplitl [Hb] <;> iassumption
  iintro ⟨Hb, Hh⟩
  ihave Hh' := (uc_open m d) $$ Hh
  icases Hh' with ⟨⟨Hg, Ho⟩, Hr⟩
  iapply (Entails.of_eq (wp_bind _ _ _ _ _ _).symm)
  iapply ((K (F := F)).wp_run (D (F := F)) 𝒱 (EH := EH) (P := PM m) κ d 0)
  isplitr; · iexact Hctx
  isplitl [Hst]; · iexact Hst
  isplitl [Hg Ho]
  · rw [st0_eq]
    isplitl [Hg] <;> iassumption
  iintro ⟨Hst, Hdn⟩
  ihave Hdn' := (Entails.of_eq (dn0_eq (fun d => VA m d (Proc.devRef .tc main_v13)) (fun d => VA m d (Proc.devRef .tc main_v14)) d)) $$ Hdn
  icases Hdn' with ⟨Hg, Ho⟩
  ihave Hh := (Entails.of_eq (uc_join m d)) $$ [Hg Ho Hr]
  · isplitl [Hg Ho]
    · isplitl [Hg] <;> iassumption
    iexact Hr
  iapply (StableHlo.wp_seq (defs := (K (F := F)).defs (D (F := F))) 𝒱 none Set.univ d (Pipeline.ucRefs τ sig) _ opsB (sub_uc opsB_sub) (List.forall_iff_forall_mem.mp opsB_fresh) (VB m d)) $$ [Hb Hh]
  · isplitl [Hb] <;> iassumption
  iintro ⟨Hb, Hh⟩
  iapply (Entails.of_eq (wp_bind _ _ _ _ _ _).symm)
  ihave Hst' := (st1_open d) $$ Hst
  icases Hst' with ⟨Hi, Hsr⟩
  iapply (region_call m κ d _)
  isplitr; · iexact Hctx
  isplitl [Hb]; · iexact Hb
  isplitl [Hh]; · iexact Hh
  isplitl [Hi]; · iexact Hi
  isplitl [Hgh Htk]
  · isplitl [Hgh] <;> iassumption
  iintro ⟨Hb, Hh, Hi⟩
  iapply (Entails.of_eq (congrArg (fun p => wp frame (wpE ((K (F := F)).defs (D (F := F))) 𝒱 (SparseCore.T d) none) Set.univ p _) (bind_pure (StableHlo.seq opsC))))
  iapply (StableHlo.wp_seq (defs := (K (F := F)).defs (D (F := F))) 𝒱 none Set.univ d (Pipeline.ucRefs τ sig) _ opsC (sub_uc opsC_sub) (List.forall_iff_forall_mem.mp opsC_fresh) (VD m d)) $$ [Hb Hh]
  · isplitl [Hb] <;> iassumption
  iintro ⟨Hb, Hh⟩
  rw [wp_pure]
  imodintro
  isplitl [Hi Hsr]
  · iapply (Entails.of_eq (st1_eq d).symm)
    isplitl [Hi] <;> iassumption
  isplitl [Hh]
  · iapply (fin_of m d); iexact Hh
  isplitl [Hb] <;> iassumption

/-! ## The launch -/

/-- The launch element: the handshakes' rounds, the second kernel's rounds, no copy in flight. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ghost_G : (iprop((bigSep Finset.univ fun c : Dev nD => bigSep Finset.univ fun p : Fin 1 => Pipeline.cellsGhost (Pipeline.pin (pcfgs (F := F)) adm) (EP (F := F)) p c)
      ∗ (bigSep Finset.univ fun c : Dev nD => bigSep Finset.univ fun p : Fin 1 => Pipeline.toksInit (Pipeline.pin (pcfgs (F := F)) adm) (EP (F := F)) p c)) : sProp 𝕄)
    = bigSep Finset.univ fun d : Dev nD => G (F := F) d := by
  rw [← bigSep_sep']
  refine bigSep_congr fun d _ => ?_
  rw [bigSep_univ_of_subsingleton (0 : Fin 1), bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks) _) $$ Hu
  icases H with ⟨HH, HR⟩
  ihave H2 := (own_pair_emb embR _ _) $$ HR
  icases H2 with ⟨HP, -⟩
  imod (Pipeline.fund_ghost (Pipeline.pin (pcfgs (F := F)) adm) (EP (F := F)) cellOf_inj) $$ HP with Hg
  imodintro
  isplitl [HH]; · iexact HH
  isplitl [Hg]
  · iapply (Entails.of_eq ghost_G); iexact Hg
  rw [show (bigSep Finset.univ fun thr : Thread nD τ => bigSep Finset.univ fun q : Fin 1 => (PM m).x q thr) = (iprop(emp) : sProp 𝕄) from
    (bigSep_congr fun _ _ => bigSep_univ_of_subsingleton (0 : Fin 1)).trans (bigSep_emp_const _)]
  iempintro

/-- A held buffer's contents are the memory's. -/
theorem held_reads (d : Dev nD) (S : Finset (DevRef τ sig)) (V : Valuation τ sig (Elt F)) (b : DevRef τ sig) (hb : b ∈ S) (s' : Phys nD τ sig (Elt F)) :
    iprop(StableHlo.held (d : Thread nD τ) S V ∗ SI s') ⊢ (⌜s'.mem.mem (d, b) = V b⌝ : sProp 𝕄) := by
  unfold StableHlo.held
  rw [SparseCore.bigSep_erase' hb]
  iintro ⟨⟨Hx, -⟩, HSI⟩
  ihave H := (SI_pointsTo_agree (st := s') (ℓ := ((d, b) : Loc nD τ sig)) (I := Finset.univ) (q := fullShare) (f := V b)) $$ [HSI Hx]
  · isplitl [HSI] <;> iassumption
  icases H with %hx
  ipureintro; exact funext fun i => hx i (Finset.mem_univ i)

def fq (d : Dev nD) (s' : Phys nD τ sig (Elt F)) : Prop := ∀ b ∈ ends, s'.mem.mem (d, b) = VE m d b

theorem hfin (d : Dev nD) (s' : Phys nD τ sig (Elt F)) : iprop(FIN m d ∗ SI s') ⊢ (⌜fq m d s'⌝ : sProp 𝕄) := by
  have hp : ∀ b ∈ ends, iprop(FIN m d ∗ SI s') ⊢ (⌜s'.mem.mem (d, b) = VE m d b⌝ : sProp 𝕄) := fun b hb => held_reads d ends (VE m d) b hb s'
  unfold fq
  exact (forall_intro fun b => forall_intro fun hb => hp b hb).trans
    ((forall_mono fun _ => pure_forall.mpr).trans pure_forall.mpr)

/-- The program's every run ends with the four buffers at their last contents, every counter at zero. -/
def QC : PUnit × MemSt nD τ sig (Elt F) → Prop := fun r => (∀ d : Dev nD, ∀ b ∈ ends, r.2.mem (d, b) = VE m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ facts)
    (fun q _ => match q with | 0 => SparseCore.Cfg.VecSplit.of_plain (vecSplit _ _))
    m ρ main (fun d => G (F := F) d) (FIN m) (u₀ (F := F)) (sep_elim_left.trans (hu₀ m)) (hmain m ρ) (fq m) (hfin m) (QC m) (fun _ h hz => ⟨h, hz⟩)

/-! ## The four buffers at the end -/

theorem end_arg0 (d : Dev nD) : VE m d (Proc.devRef .tc main_arg0) = m ((d : Thread nD τ).loc main_arg0) := by
  show StableHlo.after opsC (VD m d) _ = _
  rw [arg0_C]
  show left (VC m) d _ = _
  rw [left_other (VC m) d main_arg0 (by decide)]
  show StableHlo.after opsB (VB m d) _ = _
  rw [arg0_B, VB_off m d _ (by decide)]
  exact arg0_A (VZ m d)
theorem end_arg1 (d : Dev nD) : VE m d (Proc.devRef .tc main_arg1) = m ((d : Thread nD τ).loc main_arg1) := by
  show StableHlo.after opsC (VD m d) _ = _
  rw [arg1_C]
  show left (VC m) d _ = _
  rw [left_other (VC m) d main_arg1 (by decide)]
  show StableHlo.after opsB (VB m d) _ = _
  rw [arg1_B, VB_off m d _ (by decide)]
  exact arg1_A (VZ m d)

/-- The histogram of the polygons' edges, by polygon, row and column. -/
def histOf (x : S16x128x2.Idx → F .f32) : S16x256x256.Idx → F .f32 := shapeCast _ (histF (edgeTab x)) shapeCasts_S1048576_S16x256x256

/-- The two results of the program, from its two arguments. -/
def maskRes (x : S16x128x2.Idx → F .f32) : S1x16x256x256.Idx → F .f32 :=
  broadcastInDim S1x16x256x256 ![1, 2, 3] bcast_S16x256x256_S1x16x256x256_1_2_3 (maskOf (histOf x))
def fuseRes (x : S16x128x2.Idx → F .f32) (f : S1x64x256x256.Idx → F .f32) : S1x64x256x256.Idx → F .f32 :=
  broadcastInDim S1x64x256x256 ![1, 2, 3] bcast_S64x256x256_S1x64x256x256_1_2_3
    (fuseOf (histOf x) (shapeCast _ f shapeCasts_S1x64x256x256_S64x256x256))

theorem mid_hist (d : Dev nD) : VC m d (Proc.devRef .tc main_v15) = histOf (m ((d : Thread nD τ).loc main_arg0)) := by
  show StableHlo.after opsB (VB m d) _ = _
  rw [hist_B, VB_hist]
  have e : (VA m d (Proc.devRef .tc main_v13) : S8192.Idx → F .f32) = edgeTab (m ((d : Thread nD τ).loc main_arg0)) := after_edges (VZ m d)
  rw [e]; rfl
theorem mid_feat (d : Dev nD) : VC m d (Proc.devRef .tc main_v16)
    = (shapeCast _ (m ((d : Thread nD τ).loc main_arg1) : S1x64x256x256.Idx → F .f32) shapeCasts_S1x64x256x256_S64x256x256 : S64x256x256.Idx → F .f32) := by
  show StableHlo.after opsB (VB m d) _ = _
  rw [feat_B, VB_off m d _ (by decide)]
  show shapeCast _ (StableHlo.after opsA (VZ m d) _) _ = _
  rw [arg1_A]; rfl
theorem end_mask (d : Dev nD) : VE m d (Proc.devRef .tc main_v18) = maskRes (m ((d : Thread nD τ).loc main_arg0)) := by
  show StableHlo.after opsC (VD m d) _ = _
  rw [mask_C]
  show broadcastInDim _ _ _ (left (VC m) d _) = _
  rw [left_mask, mid_hist]; rfl
theorem end_fuse (d : Dev nD) : VE m d (Proc.devRef .tc main_v19) = fuseRes (m ((d : Thread nD τ).loc main_arg0)) (m ((d : Thread nD τ).loc main_arg1)) := by
  show StableHlo.after opsC (VD m d) _ = _
  rw [fuse_C]
  show broadcastInDim _ _ _ (left (VC m) d _) = _
  rw [left_fuse, mid_hist, mid_feat]; rfl

theorem in18 : (Proc.devRef .tc main_v18 : DevRef τ sig) ∈ ends := by decide
theorem in19 : (Proc.devRef .tc main_v19 : DevRef τ sig) ∈ ends := by decide
theorem inA0 : (Proc.devRef .tc main_arg0 : DevRef τ sig) ∈ ends := by decide
theorem inA1 : (Proc.devRef .tc main_arg1 : DevRef τ sig) ∈ ends := by decide

/-- Every run of the program ends with both results at their closed forms and the arguments as they were. -/
theorem run_closed : θ_run (Cert.KernelIdeal.defs (F := F)) (Cert.KernelIdeal.threads (F := F)) ⟨m, fun _ => 0, ρ⟩ fun r =>
    (∀ d : Dev nD, r.2.mem ((d : Thread nD τ).loc main_v18) = maskRes (m ((d : Thread nD τ).loc main_arg0))
      ∧ r.2.mem ((d : Thread nD τ).loc main_v19) = fuseRes (m ((d : Thread nD τ).loc main_arg0)) (m ((d : Thread nD τ).loc main_arg1))
      ∧ r.2.mem ((d : Thread nD τ).loc main_arg0) = m ((d : Thread nD τ).loc main_arg0)
      ∧ r.2.mem ((d : Thread nD τ).loc main_arg1) = m ((d : Thread nD τ).loc main_arg1)) ∧ r.2.sem = fun _ => 0 :=
  (θ_run Cert.KernelIdeal.defs _ _).mono (fun _ h => ⟨fun d =>
    ⟨(h.1 d _ in18).trans (end_mask m d), (h.1 d _ in19).trans (end_fuse m d),
      (h.1 d _ inA0).trans (end_arg0 m d), (h.1 d _ inA1).trans (end_arg1 m d)⟩, h.2⟩) (run_main m ρ)

end Run

end Cert.Proof.KernelIdealRun

end
-- ==== Proof.Frames.lean ====
/-
  The three frames: the kernel at its words, the kernel over the extended reals, and the reference.
-/
module

public import proofs.«01_k».proof.Defs
public import proofs.«01_k».proof.Proof.Run
public import proofs.«01_k».proof.Proof.RunIdeal
public import proofs.«01_k».proof.Proof.Gen.ReferenceIdeal.Run

@[expose] public section

noncomputable section

namespace Cert.Proof

open Idealize.ShloMosaic Idealize.SL.Sem

/-- The kernel's frame, at its words. -/
theorem frame_kernel : Cert.quiescent_Kernel := fun m ρ _ =>
  (θ_run Cert.Kernel.defs _ _).mono (fun _ h => ⟨fun c => ⟨(h.1 c).2.2.1, (h.1 c).2.2.2⟩, h.2⟩) (KernelRun.run_closed (F := Bits) m ρ)

/-- The kernel's frame, over the extended reals. -/
theorem frame_ideal : Cert.quiescent_KernelIdeal := fun m ρ _ =>
  (θ_run Cert.KernelIdeal.defs _ _).mono (fun _ h => ⟨fun c => ⟨(h.1 c).2.2.1, (h.1 c).2.2.2⟩, h.2⟩) (KernelIdealRun.run_closed (F := Ideal) m ρ)

/-- The reference's frame, over the extended reals: it has no semaphore. -/
theorem frame_reference : Cert.quiescent_ReferenceIdeal := fun m ρ _ =>
  (θ_run Cert.ReferenceIdeal.defs _ _).mono
    (fun _ h => ⟨fun c => ⟨(h c).2.2.1, (h c).2.2.2⟩, funext fun g => nomatch g⟩)
    (Cert.ReferenceIdeal.Value.run (F := Ideal) m ρ)

end Cert.Proof

end
-- ==== Proof.Round.lean ====
/-
  A crossing's column over the extended reals: the number rounded up to an integer lies at or left of column `k` exactly
  when the number itself does, unless it is 2³¹ or more.
-/
module

public import proofs.«01_k».proof.Proof.Hist
public import Idealize.ShloMosaic.PureOps.Ideal
public import Idealize.ShloMosaic.Lib.IdealHost

@[expose] public section

namespace Cert.Proof.Round

open Idealize.ShloMosaic
open Cert.Proof.Hist

/-- The two 32-bit integers' sum when one of them is a truth value. -/
theorem toInt_add_bit (T : ℤ) (h1 : -2147483648 ≤ T) (h2 : T ≤ 2147483646) (q : Prop) [Decidable q] :
    (BitVec.ofInt 32 T + (BitVec.ofBool (decide q)).setWidth 32).toInt = T + if q then 1 else 0 := by
  by_cases h : q
  · simp only [h, decide_true, if_true, BitVec.toInt_add, BitVec.toInt_ofInt]
    rw [show ((BitVec.ofBool true).setWidth 32).toInt = 1 from by decide]
    simp only [Int.bmod_def]
    omega
  · simp only [h, decide_false, if_false, BitVec.toInt_add, BitVec.toInt_ofInt]
    rw [show ((BitVec.ofBool false).setWidth 32).toInt = 0 from by decide]
    simp only [Int.bmod_def]
    omega

theorem toInt_ofInt_range (T : ℤ) (h1 : -2147483648 ≤ T) (h2 : T ≤ 2147483647) : (BitVec.ofInt 32 T).toInt = T := by
  rw [BitVec.toInt_ofInt]
  simp only [Int.bmod_def]
  omega

/-- Where a 32-bit cast of a real ends, and the rounding up after it. -/
theorem roundUp_coe (r : ℝ) (T : ℤ) (hT : Ideal.toIntClamped (-(2 ^ (32 - 1) : ℕ)) ((2 ^ (32 - 1) : ℕ) - 1) (r : EReal) = T)
    (h1 : -2147483648 ≤ T) (h2 : T ≤ 2147483646) :
    (roundUp (F := Ideal) (r : EReal)).toInt = T + if (T : ℝ) < r then 1 else 0 := by
  have hc : Ideal.fptosi 32 (r : EReal) = BitVec.ofInt 32 T := by rw [Ideal.fptosi, hT]
  have e : roundUp (F := Ideal) (r : EReal)
      = BitVec.ofInt 32 T + (BitVec.ofBool (decide ((((BitVec.ofInt 32 T).toInt : ℝ) : EReal) < (r : EReal)))).setWidth 32 := by
    show Ideal.fptosi 32 (r : EReal) + (BitVec.ofBool (decide ((((Ideal.fptosi 32 (r : EReal)).toInt : ℝ) : EReal) < (r : EReal)))).setWidth 32 = _
    rw [hc]
  rw [e, toInt_ofInt_range T h1 (by omega), toInt_add_bit T h1 h2]
  simp only [EReal.coe_lt_coe_iff]

theorem roundUp_bot : (roundUp (F := Ideal) (⊥ : EReal)).toInt = -2147483648 := by
  have e : roundUp (F := Ideal) (⊥ : EReal)
      = BitVec.ofInt 32 (-2147483648) + (BitVec.ofBool (decide ((((BitVec.ofInt 32 (-2147483648)).toInt : ℝ) : EReal) < (⊥ : EReal)))).setWidth 32 := rfl
  rw [e, toInt_add_bit _ (by norm_num) (by norm_num), if_neg not_lt_bot]
  norm_num

/-- The rounded number is at most `k` exactly when the number is. -/
theorem roundUp_le (x : EReal) (h : x ≤ ((2147483520 : ℝ) : EReal)) (k : ℕ) :
    (roundUp (F := Ideal) x).toInt ≤ (k : ℤ) ↔ x ≤ ((k : ℝ) : EReal) := by
  induction x using EReal.rec with
  | bot => rw [roundUp_bot]; exact ⟨fun _ => bot_le, fun _ => by omega⟩
  | top => exact absurd h (by simp)
  | coe r =>
    rw [EReal.coe_le_coe_iff] at h
    rw [EReal.coe_le_coe_iff]
    by_cases h0 : 0 ≤ r
    · have hf : ⌊r⌋ ≤ 2147483520 := Int.floor_le_iff.mpr (by push_cast; linarith)
      have hf0 : 0 ≤ ⌊r⌋ := Int.floor_nonneg.mpr h0
      rw [roundUp_coe r ⌊r⌋ (by rw [Ideal.toIntClamped_coe, if_pos h0]; norm_num; omega) (by omega) (by omega)]
      have hle := Int.floor_le r
      have hlt := Int.lt_floor_add_one r
      split
      · rename_i hb
        constructor
        · intro hk
          have : ((⌊r⌋ + 1 : ℤ) : ℝ) ≤ ((k : ℤ) : ℝ) := by exact_mod_cast hk
          push_cast at this; linarith
        · intro hk
          have : (⌊r⌋ : ℝ) < ((k : ℤ) : ℝ) := by push_cast; linarith
          have := Int.cast_lt.mp this
          omega
      · rename_i hb
        have e : (⌊r⌋ : ℝ) = r := le_antisymm hle (not_lt.mp hb)
        rw [add_zero]
        constructor
        · intro hk
          have : ((⌊r⌋ : ℤ) : ℝ) ≤ ((k : ℤ) : ℝ) := Int.cast_le.mpr hk
          rw [e] at this; push_cast at this; exact this
        · intro hk
          have : ((⌊r⌋ : ℤ) : ℝ) ≤ ((k : ℤ) : ℝ) := by rw [e]; push_cast; exact hk
          exact Int.cast_le.mp this
    · have hneg : r < 0 := not_le.mp h0
      have hc0 : ⌈r⌉ ≤ 0 := Int.ceil_le.mpr (by push_cast; linarith)
      have hle := Int.le_ceil r
      rw [roundUp_coe r (max (-2147483648) ⌈r⌉) (by rw [Ideal.toIntClamped_coe, if_neg h0]; norm_num; omega) (by omega) (by omega)]
      have hb : ¬ ((max (-2147483648) ⌈r⌉ : ℤ) : ℝ) < r := by
        have : (⌈r⌉ : ℝ) ≤ ((max (-2147483648) ⌈r⌉ : ℤ) : ℝ) := by exact_mod_cast le_max_right _ _
        linarith
      rw [if_neg hb]
      constructor
      · intro _; have : (0 : ℝ) ≤ k := Nat.cast_nonneg k; linarith
      · intro _; omega

end Cert.Proof.Round
-- ==== Proof.Count.lean ====
/-
  The even-odd rule over the extended reals: a closed polygon crosses a row an even number of times, so as many of its
  edges cross at or left of a column as cross right of it, up to an even number.
-/
module

public import proofs.«01_k».proof.Proof.Round

@[expose] public section

namespace Cert.Proof.Count

open Idealize.ShloMosaic
open Cert.Proof.Hist
open Cert.Proof.Round

/-- A natural number among the extended reals. -/
noncomputable abbrev num (n : ℕ) : EReal := ((n : ℝ) : EReal)

/-- A number held between 0 and 255. -/
noncomputable def held (v : EReal) : EReal := min (Ideal.ofBits .f32 0x437F0000#32) (max 0 v)

theorem num_add (a b : ℕ) : num a + num b = num (a + b) := by
  unfold num; rw [← EReal.coe_add]; push_cast; rfl

theorem num_sum {ι : Type} (s : Finset ι) (f : ι → ℕ) : ∑ i ∈ s, num (f i) = num (∑ i ∈ s, f i) := by
  classical
  induction s using Finset.induction_on with
  | empty => simp [num]
  | insert a s ha ih => rw [Finset.sum_insert ha, Finset.sum_insert ha, ih, num_add]

/-! ## Parity -/

/-- A closed walk changes sides an even number of times. -/
theorem sides_even (s : ℕ → Prop) [DecidablePred s] (n : ℕ) :
    (∑ e ∈ Finset.range n, if (s e ↔ s (e + 1)) then 0 else 1) % 2 = if (s 0 ↔ s n) then 0 else 1 := by
  induction n with
  | zero => simp
  | succ n ih =>
    rw [Finset.sum_range_succ, Nat.add_mod, ih]
    by_cases h0 : s 0 <;> by_cases hn : s n <;> by_cases h1 : s (n + 1) <;> simp [h0, hn, h1]

/-- A number less twice the whole part of its half is its remainder by two. -/
theorem odd_part (n : ℕ) :
    num n - Ideal.ofBits .f32 0x40000000#32 * Ideal.liftRound Int.floor (num n * Ideal.ofBits .f32 0x3F000000#32) = num (n % 2) := by
  have h2 : Ideal.ofBits .f32 0x40000000#32 = ((2 : ℝ) : EReal) := by
    simp [Ideal.ofBits, Ideal.ieee, -EReal.coe_mul]; norm_num
  have hh : Ideal.ofBits .f32 0x3F000000#32 = (((1 : ℝ) / 2 : ℝ) : EReal) := by
    simp [Ideal.ofBits, Ideal.ieee, -EReal.coe_mul]; norm_num
  rw [h2, hh]
  unfold num
  rw [← EReal.coe_mul]
  show _ - ((2 : ℝ) : EReal) * (((⌊(n : ℝ) * (1 / 2)⌋ : ℤ) : ℝ) : EReal) = _
  rw [← EReal.coe_mul, ← EReal.coe_sub]
  congr 1
  have hr : (n : ℝ) = 2 * ((n / 2 : ℕ) : ℝ) + ((n % 2 : ℕ) : ℝ) := by exact_mod_cast (Nat.div_add_mod n 2).symm
  have h1 : ((n % 2 : ℕ) : ℝ) ≤ 1 := by exact_mod_cast Nat.lt_succ_iff.mp (Nat.mod_lt n (by norm_num))
  have h0 : (0 : ℝ) ≤ ((n % 2 : ℕ) : ℝ) := Nat.cast_nonneg _
  have hf : ⌊(n : ℝ) * (1 / 2)⌋ = ((n / 2 : ℕ) : ℤ) := by
    rw [Int.floor_eq_iff, Int.cast_natCast]
    constructor <;> linarith
  rw [hf, Int.cast_natCast]
  linarith

/-! ## The histogram's words -/

section Row

variable (E : ℕ → EReal) (p y : ℕ)

/-- The edge crosses the row. -/
def Crosses (e : ℕ) : Prop := crosses (F := Ideal) (E (p * 512 + e + 128)) (E (p * 512 + e + 384)) (rowH (F := Ideal) y) = 1
/-- Where. -/
noncomputable def At (e : ℕ) : EReal :=
  xint (F := Ideal) (E (p * 512 + e)) (E (p * 512 + e + 128)) (E (p * 512 + e + 256)) (E (p * 512 + e + 384)) (rowH (F := Ideal) y)
/-- The rounded crossing. -/
noncomputable def Col (e : ℕ) : BitVec 32 := roundUp (F := Ideal) (At E p y e)

noncomputable instance (e : ℕ) : Decidable (Crosses E p y e) := inferInstanceAs (Decidable (_ = _))

/-- The edge is counted at column `b`. -/
def Counted (b e : ℕ) : Prop := Crosses E p y e ∧ (Col E p y e).toInt < 256 ∧ (slotOf (Col E p y e)).toNat = b
noncomputable instance (b e : ℕ) : Decidable (Counted E p y b e) := inferInstanceAs (Decidable (_ ∧ _ ∧ _))

theorem and_bits (a b : BitVec 1) : IntOp.andi a b = 1 ↔ a = 1 ∧ b = 1 := by revert a b; decide

theorem hit_iff (e : ℕ) :
    hit (F := Ideal) (E (p * 512 + e)) (E (p * 512 + e + 128)) (E (p * 512 + e + 256)) (E (p * 512 + e + 384)) (rowH (F := Ideal) y) = 1
      ↔ Crosses E p y e ∧ (Col E p y e).toInt < 256 := by
  unfold hit
  rw [and_bits]
  refine and_congr Iff.rfl ?_
  show BitVec.ofBool ((Col E p y e).slt 256#32) = 1 ↔ _
  have h256 : (256#32).toInt = 256 := by decide
  rw [BitVec.slt_eq_decide, h256]
  by_cases h : (Col E p y e).toInt < 256 <;> simp [h]

/-- A word of the histogram is the number of the edges counted there. -/
theorem histAt_num (b n : ℕ) :
    histAt (F := Ideal) E p y b n = num (∑ e ∈ Finset.range n, if Counted E p y b e then 1 else 0) := by
  induction n with
  | zero => show Ideal.ofBits .f32 0x00000000#32 = _; simp [num]
  | succ n ih =>
    rw [Finset.sum_range_succ, ← num_add, ← ih]
    show bump (F := Ideal) _ _ _ _ _ _ _ = _
    unfold bump
    by_cases hc : Counted E p y b n
    · rw [if_pos ⟨(hit_iff E p y n).mpr ⟨hc.1, hc.2.1⟩, hc.2.2⟩, if_pos hc]
      show _ + Ideal.ofBits .f32 0x3F800000#32 = _
      rw [Ideal.ofBits_one_f32]; simp [num]
    · rw [if_neg (fun h => hc ⟨((hit_iff E p y n).mp h.1).1, ((hit_iff E p y n).mp h.1).2, h.2⟩), if_neg hc]
      simp [num]

theorem slot_toNat (c : BitVec 32) : ((slotOf c).toNat : ℤ) = min (max c.toInt 0) 255 := by
  have h0 : (0#32).toInt = 0 := by decide
  have h255 : (255#32).toInt = 255 := by decide
  have hc := BitVec.toInt_eq_toNat_cond c
  have hlt := c.isLt
  simp only [slotOf, IntOp.minsi, IntOp.maxsi, BitVec.slt_iff_toInt_lt]
  rw [h0, h255]
  by_cases h : 0 < c.toInt
  · rw [if_pos h]
    by_cases h2 : c.toInt < 255
    · rw [if_pos h2]; split at hc <;> omega
    · rw [if_neg h2]; show ((255#32).toNat : ℤ) = _; norm_num; omega
  · rw [if_neg h]; rw [h0, if_pos (by norm_num)]; show ((0#32).toNat : ℤ) = _; norm_num; omega

/-- The edges counted in the columns up to `x` are those that cross at or left of `x`. -/
theorem prefix_num (x : ℕ) (hx : x < 256) (hr : ∀ e < 128, Crosses E p y e → At E p y e ≤ ((2147483520 : ℝ) : EReal)) :
    ∑ b ∈ Finset.range 256, histAt (F := Ideal) E p y b 128 * num (if b ≤ x then 1 else 0)
      = num (∑ e ∈ Finset.range 128, if Crosses E p y e ∧ At E p y e ≤ num x then 1 else 0) := by
  have h1 : ∀ b ∈ Finset.range 256, histAt (F := Ideal) E p y b 128 * num (if b ≤ x then 1 else 0)
      = num (∑ e ∈ Finset.range 128, if Counted E p y b e ∧ b ≤ x then 1 else 0) := by
    intro b _
    rw [histAt_num]
    by_cases hb : b ≤ x
    · simp [hb, num]
    · simp [hb, num]
  rw [Finset.sum_congr rfl h1, num_sum, Finset.sum_comm]
  refine congrArg num (Finset.sum_congr rfl fun e he => ?_)
  have he' := Finset.mem_range.mp he
  have hslot := slot_toNat (Col E p y e)
  by_cases hc : Crosses E p y e
  · have hle := roundUp_le (At E p y e) (hr e he' hc) x
    by_cases ha : At E p y e ≤ num x
    · rw [if_pos ⟨hc, ha⟩]
      have hcol : (Col E p y e).toInt ≤ (x : ℤ) := hle.mpr ha
      rw [Finset.sum_eq_single (slotOf (Col E p y e)).toNat]
      · rw [if_pos ⟨⟨hc, by omega, rfl⟩, by omega⟩]
      · intro b _ hb
        exact if_neg fun h => hb h.1.2.2.symm
      · intro h; exact absurd (Finset.mem_range.mpr (slotOf_lt _)) h
    · rw [if_neg fun h => ha h.2]
      refine Finset.sum_eq_zero fun b _ => if_neg fun h => ha (hle.mp ?_)
      obtain ⟨⟨_, h256, hb⟩, hbx⟩ := h
      show (Col E p y e).toInt ≤ _
      omega
  · rw [if_neg fun h => hc h.1]
    exact Finset.sum_eq_zero fun b _ => if_neg fun h => hc h.1.1

/-- The crossings at or left of a column and those right of it are even together, of a closed polygon: every edge ends
    where the next one starts. -/
theorem sides_match (x : ℕ) (hstep : ∀ e < 128, E (p * 512 + e + 384) = E (p * 512 + (e + 1) % 128 + 128)) :
    (∑ e ∈ Finset.range 128, if Crosses E p y e ∧ At E p y e ≤ num x then 1 else 0) % 2
      = (∑ e ∈ Finset.range 128, if Crosses E p y e ∧ num x < At E p y e then 1 else 0) % 2 := by
  have hall : ((∑ e ∈ Finset.range 128, if Crosses E p y e ∧ At E p y e ≤ num x then 1 else 0)
      + ∑ e ∈ Finset.range 128, if Crosses E p y e ∧ num x < At E p y e then 1 else 0) % 2 = 0 := by
    rw [← Finset.sum_add_distrib]
    have hs := sides_even (fun e => rowH (F := Ideal) y < E (p * 512 + e % 128 + 128)) 128
    rw [if_pos Iff.rfl] at hs
    refine Eq.trans ?_ hs
    refine congrArg (· % 2) (Finset.sum_congr rfl fun e he => ?_)
    have he' := Finset.mem_range.mp he
    have hcr : Crosses E p y e ↔ ¬ (rowH (F := Ideal) y < E (p * 512 + e % 128 + 128) ↔ rowH (F := Ideal) y < E (p * 512 + (e + 1) % 128 + 128)) := by
      unfold Crosses
      rw [hstep e he', Nat.mod_eq_of_lt he']
      show BitVec.ofBool (decide _) ^^^ BitVec.ofBool (decide _) = 1 ↔ _
      by_cases h1 : rowH (F := Ideal) y < E (p * 512 + e + 128) <;>
        by_cases h2 : rowH (F := Ideal) y < E (p * 512 + (e + 1) % 128 + 128) <;> simp [h1, h2]
    by_cases hc : Crosses E p y e
    · rw [if_neg (hcr.mp hc)]
      by_cases ha : At E p y e ≤ num x
      · rw [if_pos ⟨hc, ha⟩, if_neg fun h => absurd h.2 (not_lt.mpr ha)]
      · rw [if_neg fun h => ha h.2, if_pos ⟨hc, not_le.mp ha⟩]
    · rw [if_neg fun h => hc h.1, if_neg fun h => hc h.1, if_pos (not_not.mp fun h => hc (hcr.mpr h))]
  omega

end Row

end Cert.Proof.Count
-- ==== Proof.Table.lean ====
/-
  The edge table the host operations build, read number by number over the extended reals.
-/
module

public import proofs.«01_k».proof.Proof.RunIdeal
public import proofs.«01_k».proof.Proof.Count
public import Idealize.ShloMosaic.Lib.Pointwise

@[expose] public section

noncomputable section

namespace Cert.Proof.Table

open Idealize.ShloMosaic
open Cert.KernelIdeal Cert.KernelIdeal.Gen
open Cert.Proof.Hist
open Cert.Proof.Count (held)
open Cert.Proof.KernelIdealRun (coordX coordY nextPt edgeTab)

variable (x : S16x128x2.Idx → EReal)

theorem coordX_at (p : Fin 16) (e : Fin 128) : coordX (F := Ideal) x (ix2 p e) = held (x (ix3 p e 0)) := by
  pointwise [coordX, held]
  exact congrArg (fun z => min _ (max z _)) Ideal.ofBits_zero_f32
theorem coordY_at (p : Fin 16) (e : Fin 128) : coordY (F := Ideal) x (ix2 p e) = held (x (ix3 p e 1)) := by
  pointwise [coordY, held]
  exact congrArg (fun z => min _ (max z _)) Ideal.ofBits_zero_f32
theorem nextPt_at (a : S16x128.Idx → EReal) (p : Fin 16) (e : Fin 128) :
    nextPt (F := Ideal) a (ix2 p e) = a (ix2 p (e + 1)) := by
  pointwise [nextPt]
  by_cases h : e.val < 127
  · rw [dif_pos h]
    refine congrArg (fun z => a (ix2 p z)) (Fin.ext ?_)
    simp only [Fin.val_add]
    show 1 + e.val = (e.val + 1) % 128
    omega
  · rw [dif_neg h]
    refine congrArg (fun z => a (ix2 p z)) (Fin.ext ?_)
    simp only [Fin.val_add]
    show e.val - 127 = (e.val + 1) % 128
    omega

theorem ofLane_ix1 {n0 : ℕ} (a : Fin n0) : (Shape.ofLane (d := ![n0]) a : (⟨1, ![n0]⟩ : Shape).Idx) = ix1 a := by
  funext d
  obtain rfl := Fin.eq_zero d
  rfl

theorem tot_at (f : S8192.Idx → EReal) (n : ℕ) (h : n < 8192) : tot (F := Ideal) f n = f (ix1 ⟨n, h⟩) :=
  congrArg f ((congrArg (Shape.ofLane (d := ![8192])) (Fin.ext (Nat.mod_eq_of_lt h))).trans (ofLane_ix1 (n0 := 8192) ⟨n, h⟩))

/-- Entry `n` of the table: polygon `n / 512`, edge `n % 128`, and which of the edge's four numbers. -/
theorem edge_at (n : Fin 8192) (p : Fin 16) (e : Fin 128) (k : ℕ) (hp : n.val / 512 = p.val) (he : n.val % 128 = e.val)
    (hk : n.val / 128 % 4 = k) :
    edgeTab (F := Ideal) x (ix1 n) = if k < 1 then held (x (ix3 p e 0)) else if k - 1 < 1 then held (x (ix3 p e 1))
      else if k - 1 - 1 < 1 then held (x (ix3 p (e + 1) 0)) else held (x (ix3 p (e + 1) 1)) := by
  pointwise [edgeTab]
  simp only [hp, he, hk, Fin.eta, nextPt_at, coordX_at, coordY_at, dite_eq_ite]

theorem ax_at (p : Fin 16) (e : Fin 128) : tot (F := Ideal) (edgeTab x) (p.val * 512 + e.val) = held (x (ix3 p e 0)) := by
  rw [tot_at _ _ (by omega), edge_at x _ p e 0 (by show (p.val * 512 + e.val) / 512 = _; omega) (by show (p.val * 512 + e.val) % 128 = _; omega) (by show (p.val * 512 + e.val) / 128 % 4 = _; omega)]
  exact if_pos (by decide)

theorem ay_at (p : Fin 16) (e : Fin 128) : tot (F := Ideal) (edgeTab x) (p.val * 512 + e.val + 128) = held (x (ix3 p e 1)) := by
  rw [tot_at _ _ (by omega), edge_at x _ p e 1 (by show (p.val * 512 + e.val + 128) / 512 = _; omega) (by show (p.val * 512 + e.val + 128) % 128 = _; omega) (by show (p.val * 512 + e.val + 128) / 128 % 4 = _; omega)]
  exact (if_neg (by decide)).trans (if_pos (by decide))

theorem bx_at (p : Fin 16) (e : Fin 128) : tot (F := Ideal) (edgeTab x) (p.val * 512 + e.val + 256) = held (x (ix3 p (e + 1) 0)) := by
  rw [tot_at _ _ (by omega), edge_at x _ p e 2 (by show (p.val * 512 + e.val + 256) / 512 = _; omega) (by show (p.val * 512 + e.val + 256) % 128 = _; omega) (by show (p.val * 512 + e.val + 256) / 128 % 4 = _; omega)]
  exact (if_neg (by decide)).trans ((if_neg (by decide)).trans (if_pos (by decide)))

theorem by_at (p : Fin 16) (e : Fin 128) : tot (F := Ideal) (edgeTab x) (p.val * 512 + e.val + 384) = held (x (ix3 p (e + 1) 1)) := by
  rw [tot_at _ _ (by omega), edge_at x _ p e 3 (by show (p.val * 512 + e.val + 384) / 512 = _; omega) (by show (p.val * 512 + e.val + 384) % 128 = _; omega) (by show (p.val * 512 + e.val + 384) / 128 % 4 = _; omega)]
  exact (if_neg (by decide)).trans ((if_neg (by decide)).trans (if_neg (by decide)))

end Cert.Proof.Table

end
-- ==== Proof.KernelRead.lean ====
/-
  What the kernel leaves, read number by number over the extended reals.
-/
module

public import proofs.«01_k».proof.Proof.Table
public import proofs.«01_k».proof.Proof.Count

@[expose] public section

noncomputable section

namespace Cert.Proof.KernelRead

open Idealize.ShloMosaic
open Cert.KernelIdeal Cert.KernelIdeal.Gen
open Cert.Proof.Hist
open Cert.Proof.Count
open Cert.Proof.KernelIdealRun (coordX coordY nextPt edgeTab histOf maskOf fuseOf maskRes fuseRes)

/-- A truth value turned into a number: one if the row's column is at or left of the other. -/
theorem upto_num (b x : ℕ) (hb : b < 256) (hx : x < 256) :
    FloatOps.sitofp (F := Ideal) .f32 (BitVec.setWidth 32 (IntOp.cmpi .sle (BitVec.ofNat 32 b) (BitVec.ofNat 32 x)))
      = num (if b ≤ x then 1 else 0) := by
  have hle : (BitVec.ofNat 32 b).sle (BitVec.ofNat 32 x) = decide (b ≤ x) := by
    simp only [BitVec.sle, BitVec.toInt_ofNat']
    refine decide_eq_decide.mpr ?_
    rw [Int.bmod_eq_of_le (by omega) (by omega), Int.bmod_eq_of_le (by omega) (by omega)]
    omega
  show (((BitVec.setWidth 32 (BitVec.ofBool ((BitVec.ofNat 32 b).sle (BitVec.ofNat 32 x)))).toInt : ℝ) : EReal) = _
  rw [hle]
  by_cases h : b ≤ x <;> simp [h, num]

/-- A slab's mask: the odd part of the sum of a row up to each column. -/
theorem mask_at (h : S16x32x256.Idx → EReal) (p : Fin 16) (r : Fin 32) (x : Fin 256) :
    k1_pay1 (F := Ideal) h (ix3 p r x)
      = (∑ b : Fin 256, h (ix3 p r b) * num (if b.val ≤ x.val then 1 else 0))
        - Ideal.ofBits .f32 0x40000000#32 * Ideal.liftRound Int.floor
          ((∑ b : Fin 256, h (ix3 p r b) * num (if b.val ≤ x.val then 1 else 0)) * Ideal.ofBits .f32 0x3F000000#32) := by
  have hs : ∀ b : Fin 256, FloatOps.sitofp (F := Ideal) .f32 (BitVec.setWidth 32 (IntOp.cmpi .sle (BitVec.ofNat 32 b.val) (BitVec.ofNat 32 x.val)))
      = num (if b.val ≤ x.val then 1 else 0) := fun b => upto_num _ _ b.isLt x.isLt
  pointwise [k1_pay1]
  simp only [hs]

/-- A slab's features: scaled by one more than the largest of the masks, and none below zero. -/
theorem fuse_at (h : S16x32x256.Idx → EReal) (f : S64x32x256.Idx → EReal) (c : Fin 64) (r : Fin 32) (x : Fin 256) :
    k1_pay2 (F := Ideal) h f (ix3 c r x)
      = max ((Finset.univ : Finset (Fin 16)).fold max (Ideal.ofBits .f32 0xFF800000#32) (fun p => k1_pay1 (F := Ideal) h (ix3 p r x))
          * f (ix3 c r x) + f (ix3 c r x)) 0 := by
  pointwise [k1_pay2]

/-- The histogram's numbers are the words counted from the edge table. -/
theorem hist_at (x : S16x128x2.Idx → EReal) (p : Fin 16) (y b : Fin 256) :
    histOf (F := Ideal) x (ix3 p y b) = histAt (F := Ideal) (tot (F := Ideal) (edgeTab x)) p.val y.val b.val 128 := by
  pointwise [histOf]
  show histWord (F := Ideal) _ (p.val * 65536 + y.val * 256 + b.val) = _
  unfold histWord
  rw [show (p.val * 65536 + y.val * 256 + b.val) / 65536 = p.val by omega,
    show (p.val * 65536 + y.val * 256 + b.val) / 256 % 256 = y.val by omega,
    show (p.val * 65536 + y.val * 256 + b.val) % 256 = b.val by omega]

/-- The slab a row lies in, and the row's place there. -/
def part (y : Fin 256) : Fin 8 := ⟨y.val / 32, by omega⟩
def inner (y : Fin 256) : Fin 32 := ⟨y.val % 32, by omega⟩

theorem mask_whole (h : S16x256x256.Idx → EReal) (p : Fin 16) (y x : Fin 256) :
    maskOf (F := Ideal) h (ix3 p y x)
      = (∑ b : Fin 256, h (ix3 p y b) * num (if b.val ≤ x.val then 1 else 0))
        - Ideal.ofBits .f32 0x40000000#32 * Ideal.liftRound Int.floor
          ((∑ b : Fin 256, h (ix3 p y b) * num (if b.val ≤ x.val then 1 else 0)) * Ideal.ofBits .f32 0x3F000000#32) := by
  have hy : y.val = 32 * (part y).val + (inner y).val := by show _ = 32 * (y.val / 32) + y.val % 32; omega
  have hs : ∀ b : Fin 256, Slab.slab (n := 16) h (part y) (ix3 p (inner y) b) = h (ix3 p y b) :=
    fun b => (Slab.slab_at (n := 16) h (part y) (ix3 p (inner y) b) (ix3 p y b) rfl hy rfl).symm
  refine (Slab.glue_at (n := 16) _ (part y) (ix3 p (inner y) x) (ix3 p y x) rfl hy rfl).trans ?_
  refine (mask_at _ p (inner y) x).trans ?_
  simp only [hs]

theorem fuse_whole (h : S16x256x256.Idx → EReal) (f : S64x256x256.Idx → EReal) (c : Fin 64) (y x : Fin 256) :
    fuseOf (F := Ideal) h f (ix3 c y x)
      = max ((Finset.univ : Finset (Fin 16)).fold max (Ideal.ofBits .f32 0xFF800000#32) (fun p => maskOf (F := Ideal) h (ix3 p y x))
          * f (ix3 c y x) + f (ix3 c y x)) 0 := by
  have hy : y.val = 32 * (part y).val + (inner y).val := by show _ = 32 * (y.val / 32) + y.val % 32; omega
  have hs : Slab.slab (n := 64) f (part y) (ix3 c (inner y) x) = f (ix3 c y x) :=
    (Slab.slab_at (n := 64) f (part y) (ix3 c (inner y) x) (ix3 c y x) rfl hy rfl).symm
  have hm : ∀ p : Fin 16, k1_pay1 (F := Ideal) (Slab.slab (n := 16) h (part y)) (ix3 p (inner y) x) = maskOf (F := Ideal) h (ix3 p y x) :=
    fun p => (Slab.glue_at (n := 16) (fun t => k1_pay1 (F := Ideal) (Slab.slab (n := 16) h t)) (part y) (ix3 p (inner y) x) (ix3 p y x) rfl hy rfl).symm
  refine (Slab.glue_at (n := 64) _ (part y) (ix3 c (inner y) x) (ix3 c y x) rfl hy rfl).trans ?_
  refine (fuse_at _ _ c (inner y) x).trans ?_
  simp only [hs, hm]

/-- The edge table, number by number. -/
abbrev edges (x : S16x128x2.Idx → EReal) : ℕ → EReal := tot (F := Ideal) (edgeTab x)

/-- No crossing lies beyond the whole numbers the kernel rounds to. -/
def InRange (x : S16x128x2.Idx → EReal) : Prop :=
  ∀ (p : Fin 16) (y : Fin 256) (e : Fin 128), Crosses (edges x) p.val y.val e.val → At (edges x) p.val y.val e.val ≤ ((2147483520 : ℝ) : EReal)

/-- Whether an odd number of a polygon's edges cross the row right of a column. -/
def inside (x : S16x128x2.Idx → EReal) (p : Fin 16) (y c : Fin 256) : EReal :=
  num ((∑ e ∈ Finset.range 128, if Crosses (edges x) p.val y.val e ∧ num c.val < At (edges x) p.val y.val e then 1 else 0) % 2)

/-- An edge ends where the next one starts. -/
theorem edges_step (x : S16x128x2.Idx → EReal) (p : Fin 16) (e : ℕ) (he : e < 128) :
    edges x (p.val * 512 + e + 384) = edges x (p.val * 512 + (e + 1) % 128 + 128) :=
  (Table.by_at x p ⟨e, he⟩).trans ((Table.ay_at x p (⟨e, he⟩ + 1)).symm.trans (by
    rw [show ((⟨e, he⟩ : Fin 128) + 1).val = (e + 1) % 128 by rw [Fin.val_add]; rfl]))

theorem maskOf_inside (x : S16x128x2.Idx → EReal) (hr : InRange x) (p : Fin 16) (y c : Fin 256) :
    maskOf (F := Ideal) (histOf x) (ix3 p y c) = inside x p y c := by
  have hsum : (∑ b : Fin 256, histOf (F := Ideal) x (ix3 p y b) * num (if b.val ≤ c.val then 1 else 0))
      = num (∑ e ∈ Finset.range 128, if Crosses (edges x) p.val y.val e ∧ At (edges x) p.val y.val e ≤ num c.val then 1 else 0) := by
    rw [← prefix_num (edges x) p.val y.val c.val c.isLt fun e he => hr p y ⟨e, he⟩, ← Fin.sum_univ_eq_sum_range
      (fun b => histAt (F := Ideal) (edges x) p.val y.val b 128 * num (if b ≤ c.val then 1 else 0)) 256]
    exact Finset.sum_congr rfl fun b _ => by rw [hist_at]
  rw [mask_whole, hsum, odd_part, sides_match (edges x) p.val y.val c.val fun e he => edges_step x p e he]
  rfl

theorem maskRes_at (x : S16x128x2.Idx → EReal) (hr : InRange x) (p : Fin 16) (y c : Fin 256) :
    maskRes (F := Ideal) x (ix4 0 p y c) = inside x p y c := by
  pointwise [maskRes]
  exact maskOf_inside x hr p y c

theorem fuseRes_at (x : S16x128x2.Idx → EReal) (f : S1x64x256x256.Idx → EReal) (hr : InRange x) (c : Fin 64) (y b : Fin 256) :
    fuseRes (F := Ideal) x f (ix4 0 c y b)
      = max ((Finset.univ : Finset (Fin 16)).fold max (Ideal.ofBits .f32 0xFF800000#32) (fun p => inside x p y b)
          * f (ix4 0 c y b) + f (ix4 0 c y b)) 0 := by
  have hm : ∀ p : Fin 16, maskOf (F := Ideal) (histOf x) (ix3 p y b) = inside x p y b := fun p => maskOf_inside x hr p y b
  have hf : shapeCast S64x256x256 f shapeCasts_S1x64x256x256_S64x256x256 (ix3 c y b) = f (ix4 0 c y b) := by pointwise
  pointwise [fuseRes]
  refine (fuse_whole _ _ c y b).trans ?_
  simp only [hm, hf]

end Cert.Proof.KernelRead

end
-- ==== Proof.RefRead.lean ====
/-
  What the reference leaves, read number by number over the extended reals.
-/
module

public import proofs.«01_k».proof.Proof.Gen.ReferenceIdeal.Run
public import Idealize.ShloMosaic.Lib.Pointwise
public import proofs.«01_k».proof.Proof.Count

@[expose] public section

noncomputable section

namespace Cert.Proof.RefRead

open Idealize.ShloMosaic
open Cert.ReferenceIdeal Cert.ReferenceIdeal.Gen
open Cert.Proof.Hist
open Cert.Proof.Count

section Coordinates

variable (x : S16x128x2.Idx → EReal)

/-- The corners' coordinates, held inside the picture. -/
def cornerX : FVec Ideal S16x128 .f32 :=
  minimumf (broadcastInDim S16x128 ![] bcast_S_S16x128 (id (constant S_ .f32 0x437F0000#32)))
    (maximumf (broadcastInDim S16x128 ![] bcast_S_S16x128 (id (constant S_ .f32 0x00000000#32)))
      (shapeCast _ (extractStridedSlice S16x128x1 ![0, 0, 0] x slices_S16x128x2_S16x128x1_0_0_0) shapeCasts_S16x128x1_S16x128))
def cornerY : FVec Ideal S16x128 .f32 :=
  minimumf (broadcastInDim S16x128 ![] bcast_S_S16x128 (id (constant S_ .f32 0x437F0000#32)))
    (maximumf (broadcastInDim S16x128 ![] bcast_S_S16x128 (id (constant S_ .f32 0x00000000#32)))
      (shapeCast _ (extractStridedSlice S16x128x1 ![0, 0, 1] x slices_S16x128x2_S16x128x1_0_0_1) shapeCasts_S16x128x1_S16x128))
def corners : FVec Ideal S16x128x2 .f32 :=
  concatenate S16x128x2 2 [⟨S16x128x1, broadcastInDim S16x128x1 ![0, 1] bcast_S16x128_S16x128x1_0_1 (cornerX x)⟩,
    ⟨S16x128x1, broadcastInDim S16x128x1 ![0, 1] bcast_S16x128_S16x128x1_0_1 (cornerY x)⟩] concatenates_S16x128x1_S16x128x1_S16x128x2_d2
def startX : FVec Ideal S16x128 .f32 :=
  shapeCast _ (extractStridedSlice S16x128x1 ![0, 0, 0] (corners x) slices_S16x128x2_S16x128x1_0_0_0) shapeCasts_S16x128x1_S16x128
def startY : FVec Ideal S16x128 .f32 :=
  shapeCast _ (extractStridedSlice S16x128x1 ![0, 0, 1] (corners x) slices_S16x128x2_S16x128x1_0_0_1) shapeCasts_S16x128x1_S16x128
/-- Every corner's successor round the polygon. -/
def turn (a : FVec Ideal S16x128 .f32) : FVec Ideal S16x128 .f32 :=
  concatenate S16x128 1 [⟨S16x127, extractStridedSlice S16x127 ![0, 1] a slices_S16x128_S16x127_0_1⟩,
    ⟨S16x1, extractStridedSlice S16x1 ![0, 0] a slices_S16x128_S16x1_0_0⟩] concatenates_S16x127_S16x1_S16x128_d1
def column (a : FVec Ideal S16x128 .f32) : FVec Ideal S16x128x1 .f32 := broadcastInDim S16x128x1 ![0, 1] bcast_S16x128_S16x128x1_0_1 a

theorem cornerX_at (p : Fin 16) (e : Fin 128) : cornerX x (ix2 p e) = held (x (ix3 p e 0)) := by
  pointwise [cornerX, held]
  exact congrArg (fun z => min _ (max z _)) Ideal.ofBits_zero_f32
theorem cornerY_at (p : Fin 16) (e : Fin 128) : cornerY x (ix2 p e) = held (x (ix3 p e 1)) := by
  pointwise [cornerY, held]
  exact congrArg (fun z => min _ (max z _)) Ideal.ofBits_zero_f32
theorem startX_at (p : Fin 16) (e : Fin 128) : startX x (ix2 p e) = held (x (ix3 p e 0)) := by
  refine Eq.trans ?_ (cornerX_at x p e)
  pointwise [startX, corners]
theorem startY_at (p : Fin 16) (e : Fin 128) : startY x (ix2 p e) = held (x (ix3 p e 1)) := by
  refine Eq.trans ?_ (cornerY_at x p e)
  pointwise [startY, corners]
theorem turn_at (a : FVec Ideal S16x128 .f32) (p : Fin 16) (e : Fin 128) : turn a (ix2 p e) = a (ix2 p (e + 1)) := by
  pointwise [turn]
  by_cases h : e.val < 127
  · rw [dif_pos h]
    refine congrArg (fun z => a (ix2 p z)) (Fin.ext ?_)
    simp only [Fin.val_add]
    show 1 + e.val = (e.val + 1) % 128
    omega
  · rw [dif_neg h]
    refine congrArg (fun z => a (ix2 p z)) (Fin.ext ?_)
    simp only [Fin.val_add]
    show e.val - 127 = (e.val + 1) % 128
    omega

end Coordinates

/-- The pixels' columns and rows, one after the other. -/
def pixelX : FVec Ideal S1x65536 .f32 :=
  broadcastInDim S1x65536 ![1] bcast_S65536_S1x65536_1 (shapeCast _
    (broadcastInDim S256x256 ![1] bcast_S256_S256x256_1 (sitofp .f32 (iotaInDim S256 32 0) : FVec Ideal S256 .f32)) shapeCasts_S256x256_S65536)
def pixelY : FVec Ideal S1x65536 .f32 :=
  broadcastInDim S1x65536 ![1] bcast_S65536_S1x65536_1 (shapeCast _
    (broadcastInDim S256x256 ![0] bcast_S256_S256x256_0 (sitofp .f32 (iotaInDim S256 32 0) : FVec Ideal S256 .f32)) shapeCasts_S256x256_S65536)
/-- One number for every corner, or for every pixel, given to every pair. -/
def overPixels (a : FVec Ideal S16x128x1 .f32) : FVec Ideal S16x128x65536 .f32 :=
  broadcastInDim S16x128x65536 ![0, 1, 2] bcast_S16x128x1_S16x128x65536_0_1_2 a
def overCorners (a : FVec Ideal S1x65536 .f32) : FVec Ideal S16x128x65536 .f32 :=
  broadcastInDim S16x128x65536 ![0, 1, 2] bcast_S1x1x65536_S16x128x65536_0_1_2 (broadcastInDim S1x1x65536 ![1, 2] bcast_S1x65536_S1x1x65536_1_2 a)

theorem pixelX_at (q : Fin 65536) : pixelX (ix2 0 q) = rowH (F := Ideal) (q.val % 256) := by
  pointwise [pixelX]
  rfl
theorem pixelY_at (q : Fin 65536) : pixelY (ix2 0 q) = rowH (F := Ideal) (q.val / 256) := by
  pointwise [pixelY]
  rfl
theorem overPixels_at (a : FVec Ideal S16x128 .f32) (p : Fin 16) (e : Fin 128) (q : Fin 65536) :
    overPixels (column a) (ix3 p e q) = a (ix2 p e) := by
  pointwise [overPixels, column]
theorem overCorners_at (a : FVec Ideal S1x65536 .f32) (p : Fin 16) (e : Fin 128) (q : Fin 65536) :
    overCorners a (ix3 p e q) = a (ix2 0 q) := by
  pointwise [overCorners]

/-- Whether a corner's edge crosses right of a pixel, over every pair. -/
def rightOf (ax ay bx bY : FVec Ideal S16x128x1 .f32) (px py : FVec Ideal S1x65536 .f32) : IVec S16x128x65536 1 :=
  andi (cmpi .ne (cmpf .ogt (overPixels ay) (overCorners py)) (cmpf .ogt (overPixels bY) (overCorners py)))
    (cmpf .olt (overCorners px) (addf (overPixels ax) (mulf (Host.divf (subf (overCorners py) (overPixels ay))
      (overPixels (addf (subf bY ay) (broadcastInDim S16x128x1 ![] bcast_S_S16x128x1 (constant S_ .f32 0x3089705F#32)))))
      (overPixels (subf bx ax)))))

/-- The edges counted. -/
def tally (b : IVec S16x128x65536 1) : IVec S16x65536 32 :=
  Host.reduce IntOp.addi (extui 32 b natLt_1_32) (constantI S_ 32 0#32) reducesTo_S16x128x65536_S16x65536_d1 h_S_

/-- Counting truth values one by one. -/
theorem fold_count {n : ℕ} (b : Fin n → BitVec 1) :
    (Finset.univ : Finset (Fin n)).fold IntOp.addi (0#32) (fun e => BitVec.setWidth 32 (b e))
      = BitVec.ofNat 32 (∑ e : Fin n, if b e = 1 then 1 else 0) := by
  have key : ∀ s : Finset (Fin n), s.fold IntOp.addi (0#32) (fun e => BitVec.setWidth 32 (b e))
      = BitVec.ofNat 32 (∑ e ∈ s, if b e = 1 then 1 else 0) := by
    intro s
    classical
    induction s using Finset.induction_on with
    | empty => rfl
    | insert a s ha ih =>
      rw [Finset.fold_insert ha, ih, Finset.sum_insert ha, BitVec.ofNat_add]
      have hb : BitVec.setWidth 32 (b a) = BitVec.ofNat 32 (if b a = 1 then 1 else 0) := by
        generalize b a = z
        revert z
        decide
      rw [hb]
      rfl
  exact key _

theorem tally_at (b : IVec S16x128x65536 1) (p : Fin 16) (q : Fin 65536) :
    tally b (ix2 p q) = BitVec.ofNat 32 (∑ e : Fin 128, if b (ix3 p e q) = 1 then 1 else 0) := by
  refine Eq.trans ?_ (fold_count fun e : Fin 128 => b (ix3 p e q))
  pointwise [tally]

/-- The divisor two, guarded against being zero. -/
def two : IVec S_ 32 := select (cmpi .eq (id (constantI S_ 32 2#32)) (constantI S_ 32 0#32)) (constantI S_ 32 1#32) (id (constantI S_ 32 2#32))
/-- The remainder by two, first as a division leaves it, then with the divisor's sign. -/
def left (n : IVec S16x65536 32) : IVec S16x65536 32 := Host.remsi n (broadcastInDim S16x65536 ![] bcast_S_S16x65536 two)
def odd (n : IVec S16x65536 32) : IVec S16x65536 32 :=
  select (andi (cmpi .ne (cmpi .slt (left n) (broadcastInDim S16x65536 ![] bcast_S_S16x65536 (constantI S_ 32 0#32)))
      (broadcastInDim S16x65536 ![] bcast_S_S16x65536 (cmpi .slt two (constantI S_ 32 0#32))))
    (cmpi .ne (left n) (broadcastInDim S16x65536 ![] bcast_S_S16x65536 (constantI S_ 32 0#32))))
    (addi (left n) (broadcastInDim S16x65536 ![] bcast_S_S16x65536 two)) (left n)

theorem rest_two : ∀ k < 129,
    Scalar.select (IntOp.andi (IntOp.cmpi .ne (IntOp.cmpi .slt (IntOp.remsi ArithUnit.host (BitVec.ofNat 32 k) 2#32) 0#32) (IntOp.cmpi .slt 2#32 0#32))
        (IntOp.cmpi .ne (IntOp.remsi ArithUnit.host (BitVec.ofNat 32 k) 2#32) 0#32))
      (IntOp.addi (IntOp.remsi ArithUnit.host (BitVec.ofNat 32 k) 2#32) 2#32) (IntOp.remsi ArithUnit.host (BitVec.ofNat 32 k) 2#32)
      = BitVec.ofNat 32 (k % 2) := by decide +kernel

theorem odd_at (n : IVec S16x65536 32) (p : Fin 16) (q : Fin 65536) (k : ℕ) (hk : k < 129) (hn : n (ix2 p q) = BitVec.ofNat 32 k) :
    odd n (ix2 p q) = BitVec.ofNat 32 (k % 2) := by
  have h2 : two ix0 = 2#32 := rfl
  pointwise [odd, left]
  rw [hn, h2]
  exact rest_two k hk

theorem rightOf_at (ax ay bx bY : FVec Ideal S16x128 .f32) (p : Fin 16) (e : Fin 128) (q : Fin 65536) :
    rightOf (column ax) (column ay) (column bx) (column bY) pixelX pixelY (ix3 p e q) = 1
      ↔ crosses (F := Ideal) (ay (ix2 p e)) (bY (ix2 p e)) (rowH (F := Ideal) (q.val / 256)) = 1
        ∧ rowH (F := Ideal) (q.val % 256)
          < xint (F := Ideal) (ax (ix2 p e)) (ay (ix2 p e)) (bx (ix2 p e)) (bY (ix2 p e)) (rowH (F := Ideal) (q.val / 256)) := by
  rw [← pixelX_at, ← pixelY_at]
  pointwise [rightOf, overPixels, overCorners, column]
  rw [and_bits]
  refine and_congr ?_ ?_
  · rw [show ∀ a b : BitVec 1, IntOp.cmpi .ne a b = IntOp.xori a b by decide]
    exact Iff.rfl
  · rw [show ∀ c : Bool, BitVec.ofBool c = 1 ↔ c = true by decide, decide_eq_true_iff]
    exact Iff.rfl

/-! ## The two results -/

section Results

variable (x : S16x128x2.Idx → EReal)

def masks : FVec Ideal S1x16x256x256 .f32 :=
  broadcastInDim S1x16x256x256 ![1, 2, 3] bcast_S16x256x256_S1x16x256x256_1_2_3 (shapeCast _ (sitofp .f32
    (odd (tally (rightOf (column (startX x)) (column (startY x)) (column (turn (startX x))) (column (turn (startY x))) pixelX pixelY))) : FVec Ideal S16x65536 .f32)
    shapeCasts_S16x65536_S16x256x256)

def feats (f : FVec Ideal S1x64x256x256 .f32) : FVec Ideal S1x64x256x256 .f32 :=
  maximumf (addf (mulf (broadcastInDim S1x64x256x256 ![0, 1, 2, 3] bcast_S1x1x256x256_S1x64x256x256_0_1_2_3
      (broadcastInDim S1x1x256x256 ![0, 2, 3] bcast_S1x256x256_S1x1x256x256_0_2_3
        (Host.reduce FloatOps.maximumf (masks x) (constant S_ .f32 0xFF800000#32) reducesTo_S1x16x256x256_S1x256x256_d1 h_S_))) f) f)
    (broadcastInDim S1x64x256x256 ![] bcast_S_S1x64x256x256 (constant S_ .f32 0x00000000#32))

/-- The corner `e` of polygon `p`, held inside the picture. -/
def cx (p : Fin 16) (e : Fin 128) : EReal := held (x (ix3 p e 0))
def cy (p : Fin 16) (e : Fin 128) : EReal := held (x (ix3 p e 1))

/-- The edge from corner `e` crosses row `y` right of column `c`. -/
def Right (p : Fin 16) (y c : Fin 256) (e : Fin 128) : Prop :=
  crosses (F := Ideal) (cy x p e) (cy x p (e + 1)) (rowH (F := Ideal) y.val) = 1
    ∧ rowH (F := Ideal) c.val < xint (F := Ideal) (cx x p e) (cy x p e) (cx x p (e + 1)) (cy x p (e + 1)) (rowH (F := Ideal) y.val)

open Classical in
theorem masks_at (p : Fin 16) (y c : Fin 256) :
    masks x (ix4 0 p y c) = num ((∑ e : Fin 128, if Right x p y c e then 1 else 0) % 2) := by
  have hq : y.val * 256 + c.val < 65536 := by omega
  have h1 : (y.val * 256 + c.val) / 256 = y.val := by omega
  have h2 : (y.val * 256 + c.val) % 256 = c.val := by omega
  have hb : ∀ e : Fin 128, (rightOf (column (startX x)) (column (startY x)) (column (turn (startX x))) (column (turn (startY x))) pixelX pixelY
      (ix3 p e ⟨y.val * 256 + c.val, hq⟩) = 1) = Right x p y c e := fun e => propext <| by
    rw [rightOf_at]
    simp only [startX_at, startY_at, turn_at, h1, h2]
    exact Iff.rfl
  have ht := tally_at (rightOf (column (startX x)) (column (startY x)) (column (turn (startX x))) (column (turn (startY x))) pixelX pixelY)
    p ⟨y.val * 256 + c.val, hq⟩
  simp only [hb] at ht
  have hk : (∑ e : Fin 128, if Right x p y c e then 1 else 0) < 129 :=
    lt_of_le_of_lt (Finset.sum_le_card_nsmul _ _ 1 fun e _ => by split <;> omega) (by simp)
  have ho := odd_at _ p ⟨y.val * 256 + c.val, hq⟩ _ hk (ht.trans (by congr!))
  pointwise [masks]
  refine (congrArg (fun w => FloatOps.sitofp (F := Ideal) .f32 w) ho).trans ?_
  show (((BitVec.ofNat 32 _).toInt : ℝ) : EReal) = _
  rcases Nat.mod_two_eq_zero_or_one (∑ e : Fin 128, if Right x p y c e then 1 else 0) with h | h <;> rw [h] <;> simp [num]

theorem feats_at (f : FVec Ideal S1x64x256x256 .f32) (c : Fin 64) (y b : Fin 256) :
    feats x f (ix4 0 c y b)
      = max ((Finset.univ : Finset (Fin 16)).fold max (Ideal.ofBits .f32 0xFF800000#32) (fun p => masks x (ix4 0 p y b))
          * f (ix4 0 c y b) + f (ix4 0 c y b)) 0 := by
  pointwise [feats]

end Results

open Idealize.ShloMosaic.TcCoe in
/-- The reference's two results are these. -/
theorem out0_eq (m : (ℓ : Loc nD τ sig) → Buf (Elt Ideal) ℓ) (c : Dev nD) :
    Value.res_out0 (F := Ideal) m c = masks (m ((c.tc : Thread nD τ).loc main_arg0)) := by
  unfold Value.res_out0 Value.res_main_v59
  rfl
open Idealize.ShloMosaic.TcCoe in
theorem out1_eq (m : (ℓ : Loc nD τ sig) → Buf (Elt Ideal) ℓ) (c : Dev nD) :
    Value.res_out1 (F := Ideal) m c = feats (m ((c.tc : Thread nD τ).loc main_arg0)) (m ((c.tc : Thread nD τ).loc main_arg1)) := by
  unfold Value.res_out1 Value.res_main_v65
  rfl

end Cert.Proof.RefRead

end
-- ==== Proof.PreRead.lean ====
/-
  What the precondition says of a polygon's edges, read number by number over the extended reals.
-/
module

public import proofs.«01_k».proof.Pre_crossings_in_range
public import Idealize.ShloMosaic.Lib.Pointwise
public import proofs.«01_k».proof.Proof.Count

@[expose] public section

noncomputable section

namespace Cert.Proof.PreRead

open Idealize.ShloMosaic
open Cert.Pre_crossings_in_range
open Cert.Proof.Hist
open Cert.Proof.Count

/-- The shape relations the precondition's operations take. -/
theorem facts : Facts where
  slices_S16x128x2_S16x128x1_0_0_0 := by decide
  shapeCasts_S16x128x1_S16x128 := by decide
  bcast_S_S16x128 := by decide
  slices_S16x128x2_S16x128x1_0_0_1 := by decide
  bcast_S16x128_S16x128x1_0_1 := by decide
  concatenates_S16x128x1_S16x128x1_S16x128x2_d2 := by decide
  slices_S16x128_S16x127_0_1 := by decide
  slices_S16x128_S16x1_0_0 := by decide
  concatenates_S16x127_S16x1_S16x128_d1 := by decide
  bcast_S256_S1x1x256_2 := by decide
  bcast_S16x128x1_S16x128x256_0_1_2 := by decide
  bcast_S1x1x256_S16x128x256_0_1_2 := by decide
  bcast_S_S16x128x1 := by decide
  bcast_S_S16x128x256 := by decide

variable [Facts]
open Facts

theorem clip_at (a : FVec Ideal S16x128 .f32) (p : Fin 16) (e : Fin 128) :
    fn_clip (F := Ideal) a (constant S_ .f32 0x00000000#32) (constant S_ .f32 0x437F0000#32) (ix2 p e) = held (a (ix2 p e)) := by
  pointwise [fn_clip, held]
  exact congrArg (fun z => min _ (max z _)) Ideal.ofBits_zero_f32

theorem roll_at (a : FVec Ideal S16x128 .f32) (p : Fin 16) (e : Fin 128) : fn_roll_static (F := Ideal) a (ix2 p e) = a (ix2 p (e + 1)) := by
  pointwise [fn_roll_static]
  by_cases h : e.val < 127
  · rw [dif_pos h]
    refine congrArg (fun z => a (ix2 p z)) (Fin.ext ?_)
    simp only [Fin.val_add]
    show 1 + e.val = (e.val + 1) % 128
    omega
  · rw [dif_neg h]
    refine congrArg (fun z => a (ix2 p z)) (Fin.ext ?_)
    simp only [Fin.val_add]
    show e.val - 127 = (e.val + 1) % 128
    omega

/-- Where the condition holds of an edge that crosses the row, the crossing lies in range. -/
theorem part1_le (ax ay bx bY : FVec Ideal S16x128x1 .f32) (p : Fin 16) (e : Fin 128) (y : Fin 256)
    (h : fn_part1 (F := Ideal) ax ay bx bY (ix3 p e y) = 1)
    (hc : crosses (F := Ideal) (ay (ix3 p e 0)) (bY (ix3 p (e + 1) 0)) (rowH (F := Ideal) y.val) = 1) :
    xint (F := Ideal) (ax (ix3 p e 0)) (ay (ix3 p e 0)) (bx (ix3 p e 0)) (bY (ix3 p (e + 1) 0)) (rowH (F := Ideal) y.val)
      ≤ Ideal.ofBits .f32 0x4EFFFFFF#32 := by
  have hr : fn_part1 (F := Ideal) ax ay bx bY (ix3 p e y)
      = IntOp.ori (~~~ crosses (F := Ideal) (ay (ix3 p e 0)) (bY (ix3 p (e + 1) 0)) (rowH (F := Ideal) y.val))
        (BitVec.ofBool (decide (xint (F := Ideal) (ax (ix3 p e 0)) (ay (ix3 p e 0)) (bx (ix3 p e 0)) (bY (ix3 p (e + 1) 0)) (rowH (F := Ideal) y.val)
          ≤ Ideal.ofBits .f32 0x4EFFFFFF#32))) := by
    pointwise [fn_part1, fn_part2, roll_at]
    rw [show ∀ a b : BitVec 1, IntOp.cmpi .ne a b = IntOp.xori a b by decide]
    rfl
  rw [hr, hc] at h
  have hb : ∀ b : Bool, IntOp.ori (~~~ (1 : BitVec 1)) (BitVec.ofBool b) = 1 → b = true := by decide
  exact of_decide_eq_true (hb _ h)

section Whole

variable (x : S16x128x2.Idx → EReal)

def corners : FVec Ideal S16x128x2 .f32 :=
  concatenate S16x128x2 2
    [⟨S16x128x1, broadcastInDim S16x128x1 ![0, 1] bcast_S16x128_S16x128x1_0_1
      (fn_clip (F := Ideal) (shapeCast S16x128 (extractStridedSlice S16x128x1 ![0, 0, 0] x slices_S16x128x2_S16x128x1_0_0_0) shapeCasts_S16x128x1_S16x128)
        (constant S_ .f32 0x00000000#32) (constant S_ .f32 0x437F0000#32))⟩,
     ⟨S16x128x1, broadcastInDim S16x128x1 ![0, 1] bcast_S16x128_S16x128x1_0_1
      (fn_clip (F := Ideal) (shapeCast S16x128 (extractStridedSlice S16x128x1 ![0, 0, 1] x slices_S16x128x2_S16x128x1_0_0_1) shapeCasts_S16x128x1_S16x128)
        (constant S_ .f32 0x00000000#32) (constant S_ .f32 0x437F0000#32))⟩] concatenates_S16x128x1_S16x128x1_S16x128x2_d2
def partX : FVec Ideal S16x128x1 .f32 := extractStridedSlice S16x128x1 ![0, 0, 0] (corners x) slices_S16x128x2_S16x128x1_0_0_0
def partY : FVec Ideal S16x128x1 .f32 := extractStridedSlice S16x128x1 ![0, 0, 1] (corners x) slices_S16x128x2_S16x128x1_0_0_1
def again (a : FVec Ideal S16x128x1 .f32) : FVec Ideal S16x128x1 .f32 :=
  broadcastInDim S16x128x1 ![0, 1] bcast_S16x128_S16x128x1_0_1 (shapeCast S16x128 a shapeCasts_S16x128x1_S16x128)
def nextOf (a : FVec Ideal S16x128x1 .f32) : FVec Ideal S16x128x1 .f32 :=
  broadcastInDim S16x128x1 ![0, 1] bcast_S16x128_S16x128x1_0_1 (fn_roll_static (F := Ideal) (shapeCast S16x128 a shapeCasts_S16x128x1_S16x128))

theorem fn_eq (f : S1x64x256x256.Idx → EReal) :
    fn (F := Ideal) x f = fn_part1 (F := Ideal) (again (partX x)) (again (partY x)) (nextOf (partX x)) (partY x) := rfl

theorem partX_at (p : Fin 16) (e : Fin 128) : partX x (ix3 p e 0) = held (x (ix3 p e 0)) := by
  pointwise [partX, corners, clip_at]
theorem partY_at (p : Fin 16) (e : Fin 128) : partY x (ix3 p e 0) = held (x (ix3 p e 1)) := by
  pointwise [partY, corners, clip_at]
theorem again_at (a : FVec Ideal S16x128x1 .f32) (p : Fin 16) (e : Fin 128) : again a (ix3 p e 0) = a (ix3 p e 0) := by
  pointwise [again]
theorem nextOf_at (a : FVec Ideal S16x128x1 .f32) (p : Fin 16) (e : Fin 128) : nextOf a (ix3 p e 0) = a (ix3 p (e + 1) 0) := by
  pointwise [nextOf, roll_at]

/-- Under the precondition no edge's crossing lies beyond the bound. -/
theorem crossing_le (f : S1x64x256x256.Idx → EReal) (h : fn (F := Ideal) x f = fun _ => 1#1) (p : Fin 16) (e : Fin 128) (y : Fin 256)
    (hc : crosses (F := Ideal) (held (x (ix3 p e 1))) (held (x (ix3 p (e + 1) 1))) (rowH (F := Ideal) y.val) = 1) :
    xint (F := Ideal) (held (x (ix3 p e 0))) (held (x (ix3 p e 1))) (held (x (ix3 p (e + 1) 0))) (held (x (ix3 p (e + 1) 1))) (rowH (F := Ideal) y.val)
      ≤ ((2147483520 : ℝ) : EReal) := by
  have hb : Ideal.ofBits .f32 0x4EFFFFFF#32 = ((2147483520 : ℝ) : EReal) := by
    simp [Ideal.ofBits, Ideal.ieee, -EReal.coe_mul]; norm_num
  have h1 := part1_le (again (partX x)) (again (partY x)) (nextOf (partX x)) (partY x) p e y (by rw [← fn_eq x f, h]; rfl)
  rw [hb] at h1
  simp only [again_at, nextOf_at, partX_at, partY_at] at h1
  exact h1 hc

end Whole

end Cert.Proof.PreRead

end
-- ==== Proof.Equal.lean ====
/-
  The kernel's results and the reference's are the same functions of the arguments, where no crossing lies out of range.
-/
module

public import proofs.«01_k».proof.Proof.KernelRead
public import proofs.«01_k».proof.Proof.RefRead
public import proofs.«01_k».proof.Proof.PreRead

@[expose] public section

noncomputable section

namespace Cert.Proof.Equal

open Idealize.ShloMosaic
open Cert.Proof.Hist
open Cert.Proof.Count
open Cert.Proof.KernelRead (edges InRange inside maskRes_at fuseRes_at)
open Cert.Proof.KernelIdealRun (maskRes fuseRes)

variable (x : Cert.KernelIdeal.S16x128x2.Idx → EReal) (f : Cert.KernelIdeal.S1x64x256x256.Idx → EReal)

/-- The kernel's edge crosses a row where the polygon's edge does. -/
theorem crosses_iff (p : Fin 16) (y : Fin 256) (e : Fin 128) :
    Crosses (edges x) p.val y.val e.val
      ↔ crosses (F := Ideal) (held (x (ix3 p e 1))) (held (x (ix3 p (e + 1) 1))) (rowH (F := Ideal) y.val) = 1 := by
  unfold Crosses edges
  rw [Table.ay_at, Table.by_at]

/-- And at the same place. -/
theorem at_eq (p : Fin 16) (y : Fin 256) (e : Fin 128) :
    At (edges x) p.val y.val e.val
      = xint (F := Ideal) (held (x (ix3 p e 0))) (held (x (ix3 p e 1))) (held (x (ix3 p (e + 1) 0))) (held (x (ix3 p (e + 1) 1))) (rowH (F := Ideal) y.val) := by
  unfold At edges
  rw [Table.ax_at, Table.ay_at, Table.bx_at, Table.by_at]

/-- The precondition keeps the kernel's crossings in range. -/
theorem inRange [Cert.Pre_crossings_in_range.Facts] (h : Cert.Pre_crossings_in_range.fn (F := Ideal) x f = fun _ => 1#1) : InRange x :=
  fun p y e hc => (at_eq x p y e).trans_le (PreRead.crossing_le x f h p e y ((crosses_iff x p y e).mp hc))

theorem rowH_num (c : Fin 256) : rowH (F := Ideal) c.val = num c.val := by
  have hc := c.isLt
  show (((BitVec.ofNat 32 c.val).toInt : ℝ) : EReal) = _
  rw [BitVec.toInt_ofNat', Int.bmod_eq_of_le (by omega) (by omega)]
  unfold num
  rw [Int.cast_natCast]

/-- A polygon's pixels. -/
theorem inside_eq (p : Fin 16) (y c : Fin 256) : RefRead.masks x (ix4 0 p y c) = inside x p y c := by
  rw [RefRead.masks_at]
  unfold inside
  rw [← Fin.sum_univ_eq_sum_range (fun e => if Crosses (edges x) p.val y.val e ∧ num c.val < At (edges x) p.val y.val e then 1 else 0) 128]
  refine congrArg (fun n => num (n % 2)) (Finset.sum_congr rfl fun e _ => ?_)
  have hiff : RefRead.Right x p y c e ↔ (Crosses (edges x) p.val y.val e.val ∧ num c.val < At (edges x) p.val y.val e.val) := by
    unfold RefRead.Right
    rw [crosses_iff, at_eq, rowH_num c]
    exact Iff.rfl
  by_cases h : RefRead.Right x p y c e
  · rw [if_pos h, if_pos (hiff.mp h)]
  · rw [if_neg h, if_neg fun g => h (hiff.mpr g)]

theorem masks_eq (hr : InRange x) : RefRead.masks x = maskRes (F := Ideal) x := by
  funext i
  have hi : i = ix4 (0 : Fin 1) (i 1) (i 2) (i 3) :=
    (eq_ix4 i).trans (congrArg (fun z : Fin 1 => (ix4 z (i 1) (i 2) (i 3) : Cert.KernelIdeal.S1x16x256x256.Idx)) (Fin.eq_zero (i 0)))
  exact (congrArg _ hi).trans (((inside_eq x (i 1) (i 2) (i 3)).trans (maskRes_at x hr (i 1) (i 2) (i 3)).symm).trans (congrArg _ hi).symm)

theorem feats_eq (hr : InRange x) : RefRead.feats x f = fuseRes (F := Ideal) x f := by
  funext i
  have hi : i = ix4 (0 : Fin 1) (i 1) (i 2) (i 3) :=
    (eq_ix4 i).trans (congrArg (fun z : Fin 1 => (ix4 z (i 1) (i 2) (i 3) : Cert.KernelIdeal.S1x64x256x256.Idx)) (Fin.eq_zero (i 0)))
  refine (congrArg _ hi).trans (((RefRead.feats_at x f (i 1) (i 2) (i 3)).trans (Eq.trans ?_ (fuseRes_at x f hr (i 1) (i 2) (i 3)).symm)).trans (congrArg _ hi).symm)
  have hm : ∀ p : Fin 16, RefRead.masks x (ix4 0 p (i 2) (i 3)) = inside x p (i 2) (i 3) := fun p => inside_eq x p _ _
  exact congrArg (fun M => max ((Finset.univ : Finset (Fin 16)).fold max (Ideal.ofBits .f32 0xFF800000#32) M * f (ix4 0 (i 1) (i 2) (i 3))
    + f (ix4 0 (i 1) (i 2) (i 3))) 0) (funext hm)

end Cert.Proof.Equal

end
-- ==== Proof.Algebra.lean ====
/-
  The kernel over the extended reals leaves what the reference leaves.
-/
module

public import proofs.«01_k».proof.Proof.Frames
public import proofs.«01_k».proof.Proof.Equal

@[expose] public section

noncomputable section

namespace Cert.Proof

open Idealize.ShloMosaic Idealize.SL.Sem

theorem same_results [Cert.Pre_crossings_in_range.Facts] : Cert.algebraic_KernelIdeal_ReferenceIdeal_pre_crossings_in_range := by
  intro m ρ m' ρ' hpre hargs
  refine ⟨_, _,
    (θ_run Cert.KernelIdeal.defs _ _).mono (fun _ h c => h.1 c) (KernelIdealRun.run_closed (F := Ideal) m ρ),
    (θ_run Cert.ReferenceIdeal.defs _ _).mono (fun _ h c => ?_) (Cert.ReferenceIdeal.Value.run (F := Ideal) m' ρ')⟩
  have hr := Equal.inRange _ _ (hpre c)
  refine ⟨(h c).1.trans ((RefRead.out0_eq m' c).trans ?_), (h c).2.1.trans ((RefRead.out1_eq m' c).trans ?_), (h c).2.2.1, (h c).2.2.2⟩
  · rw [(hargs c).1]
    exact Equal.masks_eq _ hr
  · rw [(hargs c).1, (hargs c).2]
    exact Equal.feats_eq _ _ hr

end Cert.Proof

end
-- ==== Proof.lean ====
/-
  The certificate's claim, assembled from the modules beside it.
-/
module

public import proofs.«01_k».proof.Defs
public import proofs.«01_k».proof.Proof.Algebra

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, PreRead.facts,
    frame_kernel, frame_ideal, fun m ρ _ => frame_ideal m ρ trivial, frame_reference, fun m ρ _ => frame_reference m ρ trivial,
    trivial, @same_results PreRead.facts⟩

end Cert.Proof

end
